-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x1024 : Shape := ⟨3, ![1, 2048, 1024]⟩
abbrev S1024x1024 : Shape := ⟨2, ![1024, 1024]⟩
abbrev S1024 : Shape := ⟨1, ![1024]⟩
abbrev S1x16x4x8x64 : Shape := ⟨5, ![1, 16, 4, 8, 64]⟩
abbrev S1x16x4x8 : Shape := ⟨4, ![1, 16, 4, 8]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S1x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1x16x4x8x64 .f32) (main_arg8 : IVec S1x16x4x8 32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S1x2048x1024 : Shape := ⟨3, ![1, 2048, 1024]⟩
abbrev S1024x1024 : Shape := ⟨2, ![1024, 1024]⟩
abbrev S1024 : Shape := ⟨1, ![1024]⟩
abbrev S1x16x4x8x64 : Shape := ⟨5, ![1, 16, 4, 8, 64]⟩
abbrev S1x16x4x8 : Shape := ⟨4, ![1, 16, 4, 8]⟩
abbrev S2048x1024 : Shape := ⟨2, ![2048, 1024]⟩
abbrev S8x1x128 : Shape := ⟨3, ![8, 1, 128]⟩
abbrev S16x4x8x64 : Shape := ⟨4, ![16, 4, 8, 64]⟩
abbrev S8x64x64 : Shape := ⟨3, ![8, 64, 64]⟩
abbrev S16x4x8 : Shape := ⟨3, ![16, 4, 8]⟩
abbrev S8x1x64 : Shape := ⟨3, ![8, 1, 64]⟩
abbrev S128x1024 : Shape := ⟨2, ![128, 1024]⟩
abbrev S1x1x128 : Shape := ⟨3, ![1, 1, 128]⟩
abbrev S1x64x64 : Shape := ⟨3, ![1, 64, 64]⟩
abbrev S1x1x64 : Shape := ⟨3, ![1, 1, 64]⟩
abbrev S1x2048x128 : Shape := ⟨3, ![1, 2048, 128]⟩
abbrev S2048x2048 : Shape := ⟨2, ![2048, 2048]⟩
abbrev S2048x128 : Shape := ⟨2, ![2048, 128]⟩
abbrev S1x128 : Shape := ⟨2, ![1, 128]⟩
abbrev S256x256 : Shape := ⟨2, ![256, 256]⟩
abbrev S32x4 : Shape := ⟨2, ![32, 4]⟩
abbrev S2048x64 : Shape := ⟨2, ![2048, 64]⟩
abbrev S1x32x64 : Shape := ⟨3, ![1, 32, 64]⟩
abbrev S32x64 : Shape := ⟨2, ![32, 64]⟩
abbrev S1x1x32 : Shape := ⟨3, ![1, 1, 32]⟩
abbrev S1x32 : Shape := ⟨2, ![1, 32]⟩
abbrev S2048x32 : Shape := ⟨2, ![2048, 32]⟩
abbrev S2048x4 : Shape := ⟨2, ![2048, 4]⟩
abbrev S4x2048 : Shape := ⟨2, ![4, 2048]⟩
abbrev S256x64 : Shape := ⟨2, ![256, 64]⟩
abbrev S256x4 : Shape := ⟨2, ![256, 4]⟩
abbrev S256x1 : Shape := ⟨2, ![256, 1]⟩
abbrev S1x256 : Shape := ⟨2, ![1, 256]⟩
abbrev S256x128 : Shape := ⟨2, ![256, 128]⟩
abbrev S1x256x64 : Shape := ⟨3, ![1, 256, 64]⟩

abbrev nBuf : Space → Nat
  | .hbm => 19
  | .vmem => 20
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1x16x4x8x64, .f32⟩
  | .hbm, ⟨8, _⟩ => ⟨S1x16x4x8, .i32⟩
  | .hbm, ⟨9, _⟩ => ⟨S2048x1024, .f32⟩
  | .hbm, ⟨10, _⟩ => ⟨S8x1x128, .f32⟩
  | .hbm, ⟨11, _⟩ => ⟨S8x1x128, .f32⟩
  | .hbm, ⟨12, _⟩ => ⟨S8x1x128, .f32⟩
  | .hbm, ⟨13, _⟩ => ⟨S16x4x8x64, .f32⟩
  | .hbm, ⟨14, _⟩ => ⟨S8x64x64, .f32⟩
  | .hbm, ⟨15, _⟩ => ⟨S16x4x8, .i32⟩
  | .hbm, ⟨16, _⟩ => ⟨S16x4x8, .f32⟩
  | .hbm, ⟨17, _⟩ => ⟨S8x1x64, .f32⟩
  | .hbm, ⟨18, _⟩ => ⟨S1x2048x1024, .f32⟩
  | .local _ .vmem, ⟨0, _⟩ => ⟨S2048x1024, .f32⟩
  | .local _ .vmem, ⟨1, _⟩ => ⟨S128x1024, .f32⟩
  | .local _ .vmem, ⟨2, _⟩ => ⟨S128x1024, .f32⟩
  | .local _ .vmem, ⟨3, _⟩ => ⟨S1x1x128, .f32⟩
  | .local _ .vmem, ⟨4, _⟩ => ⟨S1x1x128, .f32⟩
  | .local _ .vmem, ⟨5, _⟩ => ⟨S128x1024, .f32⟩
  | .local _ .vmem, ⟨6, _⟩ => ⟨S128x1024, .f32⟩
  | .local _ .vmem, ⟨7, _⟩ => ⟨S1x1x128, .f32⟩
  | .local _ .vmem, ⟨8, _⟩ => ⟨S1x1x128, .f32⟩
  | .local _ .vmem, ⟨9, _⟩ => ⟨S128x1024, .f32⟩
  | .local _ .vmem, ⟨10, _⟩ => ⟨S128x1024, .f32⟩
  | .local _ .vmem, ⟨11, _⟩ => ⟨S1x1x128, .f32⟩
  | .local _ .vmem, ⟨12, _⟩ => ⟨S1x1x128, .f32⟩
  | .local _ .vmem, ⟨13, _⟩ => ⟨S1x64x64, .f32⟩
  | .local _ .vmem, ⟨14, _⟩ => ⟨S1x64x64, .f32⟩
  | .local _ .vmem, ⟨15, _⟩ => ⟨S1x1x64, .f32⟩
  | .local _ .vmem, ⟨16, _⟩ => ⟨S1x1x64, .f32⟩
  | .local _ .vmem, ⟨17, _⟩ => ⟨S1x2048x128, .f32⟩
  | .local _ .vmem, ⟨18, _⟩ => ⟨S1x2048x128, .f32⟩
  | .local _ .vmem, ⟨19, _⟩ => ⟨S2048x2048, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "scale" => some (((1 / 8) * (Real.log 2)⁻¹ : ℝ) : EReal)
  | _ => none
-- ==== ReferenceIdeal.lean ====
abbrev S1x2048x1024 : Shape := ⟨3, ![1, 2048, 1024]⟩
abbrev S1024x1024 : Shape := ⟨2, ![1024, 1024]⟩
abbrev S1024 : Shape := ⟨1, ![1024]⟩
abbrev S1x16x4x8x64 : Shape := ⟨5, ![1, 16, 4, 8, 64]⟩
abbrev S1x16x4x8 : Shape := ⟨4, ![1, 16, 4, 8]⟩
abbrev S1x1x1024 : Shape := ⟨3, ![1, 1, 1024]⟩
abbrev S1x2048x16x64 : Shape := ⟨4, ![1, 2048, 16, 64]⟩
abbrev S1x16x2048x64 : Shape := ⟨4, ![1, 16, 2048, 64]⟩
abbrev S1x16x4096x64 : Shape := ⟨4, ![1, 16, 4096, 64]⟩
abbrev S1x16x4x8x4096 : Shape := ⟨5, ![1, 16, 4, 8, 4096]⟩
abbrev S_ : Shape := ⟨0, ![]⟩
abbrev S1x16x4x8x1 : Shape := ⟨5, ![1, 16, 4, 8, 1]⟩
abbrev S1x16x4x4096 : Shape := ⟨4, ![1, 16, 4, 4096]⟩
abbrev S1x16x4x2048 : Shape := ⟨4, ![1, 16, 4, 2048]⟩
abbrev S1x16x4x2048x1 : Shape := ⟨5, ![1, 16, 4, 2048, 1]⟩
abbrev S1x16x4x1x2048 : Shape := ⟨5, ![1, 16, 4, 1, 2048]⟩
abbrev S1x16x4x2048x2048 : Shape := ⟨5, ![1, 16, 4, 2048, 2048]⟩
abbrev S1x16x2048x2048 : Shape := ⟨4, ![1, 16, 2048, 2048]⟩
abbrev S2048x2048 : Shape := ⟨2, ![2048, 2048]⟩
abbrev S1x1x2048x2048 : Shape := ⟨4, ![1, 1, 2048, 2048]⟩
abbrev S1x16x64x2048 : Shape := ⟨4, ![1, 16, 64, 2048]⟩
abbrev S16x2048x64 : Shape := ⟨3, ![16, 2048, 64]⟩
abbrev S16x64x2048 : Shape := ⟨3, ![16, 64, 2048]⟩
abbrev S16x2048x2048 : Shape := ⟨3, ![16, 2048, 2048]⟩
abbrev S1x16x2048 : Shape := ⟨3, ![1, 16, 2048]⟩
abbrev S1x16x2048x1 : Shape := ⟨4, ![1, 16, 2048, 1]⟩

abbrev nBuf : Space → Nat
  | .hbm => 134
  | .vmem => 0
  | .smem => 0
  | _ => 0

abbrev hbmTy0_0 (i : Nat) : BufTy := match i % 128 with
  | 0 => ⟨S1x2048x1024, .f32⟩
  | 1 => ⟨S1024x1024, .f32⟩
  | 2 => ⟨S1024, .f32⟩
  | 3 => ⟨S1024x1024, .f32⟩
  | 4 => ⟨S1024, .f32⟩
  | 5 => ⟨S1024x1024, .f32⟩
  | 6 => ⟨S1024, .f32⟩
  | 7 => ⟨S1x16x4x8x64, .f32⟩
  | 8 => ⟨S1x16x4x8, .i32⟩
  | 9 => ⟨S1024x1024, .f32⟩
  | 10 => ⟨S1x2048x1024, .f32⟩
  | 11 => ⟨S1x1x1024, .f32⟩
  | 12 => ⟨S1x2048x1024, .f32⟩
  | 13 => ⟨S1x2048x1024, .f32⟩
  | 14 => ⟨S1024x1024, .f32⟩
  | 15 => ⟨S1x2048x1024, .f32⟩
  | 16 => ⟨S1x1x1024, .f32⟩
  | 17 => ⟨S1x2048x1024, .f32⟩
  | 18 => ⟨S1x2048x1024, .f32⟩
  | 19 => ⟨S1024x1024, .f32⟩
  | 20 => ⟨S1x2048x1024, .f32⟩
  | 21 => ⟨S1x1x1024, .f32⟩
  | 22 => ⟨S1x2048x1024, .f32⟩
  | 23 => ⟨S1x2048x1024, .f32⟩
  | 24 => ⟨S1x2048x16x64, .f32⟩
  | 25 => ⟨S1x16x2048x64, .f32⟩
  | 26 => ⟨S1x2048x16x64, .f32⟩
  | 27 => ⟨S1x16x2048x64, .f32⟩
  | 28 => ⟨S1x2048x16x64, .f32⟩
  | 29 => ⟨S1x16x2048x64, .f32⟩
  | 30 => ⟨S1x16x4096x64, .f32⟩
  | 31 => ⟨S1x16x4x8x4096, .f32⟩
  | 32 => ⟨S1x16x4x8x4096, .f32⟩
  | 33 => ⟨S_, .f32⟩
  | 34 => ⟨S1x16x4x8x4096, .f32⟩
  | 35 => ⟨S1x16x4x8x4096, .i1⟩
  | 36 => ⟨S1x16x4x8x4096, .i32⟩
  | 37 => ⟨S1x16x4x8x1, .i32⟩
  | 38 => ⟨S1x16x4x8x4096, .i32⟩
  | 39 => ⟨S1x16x4x8x4096, .i32⟩
  | 40 => ⟨S_, .i32⟩
  | 41 => ⟨S1x16x4x4096, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S1x16x4x4096, .i32⟩
  | 49 => ⟨S1x16x4x4096, .i32⟩
  | 50 => ⟨S_, .i32⟩
  | 51 => ⟨S1x16x4x4096, .i32⟩
  | 52 => ⟨S1x16x4x4096, .i1⟩
  | 53 => ⟨S_, .i32⟩
  | 54 => ⟨S1x16x4x4096, .i32⟩
  | 55 => ⟨S1x16x4x4096, .i1⟩
  | 56 => ⟨S_, .i32⟩
  | 57 => ⟨S_, .i1⟩
  | 58 => ⟨S1x16x4x4096, .i1⟩
  | 59 => ⟨S1x16x4x4096, .i1⟩
  | 60 => ⟨S1x16x4x4096, .i1⟩
  | 61 => ⟨S1x16x4x4096, .i32⟩
  | 62 => ⟨S1x16x4x4096, .i32⟩
  | 63 => ⟨S1x16x4x4096, .i32⟩
  | 64 => ⟨S1x16x4x2048, .i32⟩
  | 65 => ⟨S1x16x4x2048, .i32⟩
  | 66 => ⟨S1x16x4x2048x1, .i32⟩
  | 67 => ⟨S1x16x4x1x2048, .i32⟩
  | 68 => ⟨S1x16x4x2048x2048, .i32⟩
  | 69 => ⟨S1x16x4x2048x2048, .i32⟩
  | 70 => ⟨S1x16x4x2048x2048, .i1⟩
  | 71 => ⟨S_, .i1⟩
  | 72 => ⟨S1x16x2048x2048, .i1⟩
  | 73 => ⟨S_, .i1⟩
  | 74 => ⟨S2048x2048, .i1⟩
  | 75 => ⟨S2048x2048, .i32⟩
  | 76 => ⟨S_, .i32⟩
  | 77 => ⟨S2048x2048, .i32⟩
  | 78 => ⟨S2048x2048, .i32⟩
  | 79 => ⟨S2048x2048, .i32⟩
  | 80 => ⟨S2048x2048, .i1⟩
  | 81 => ⟨S_, .i1⟩
  | 82 => ⟨S2048x2048, .i1⟩
  | 83 => ⟨S2048x2048, .i1⟩
  | 84 => ⟨S1x1x2048x2048, .i1⟩
  | 85 => ⟨S1x16x2048x2048, .i1⟩
  | 86 => ⟨S1x16x2048x2048, .i1⟩
  | 87 => ⟨S1x16x64x2048, .f32⟩
  | 88 => ⟨S16x2048x64, .f32⟩
  | 89 => ⟨S16x64x2048, .f32⟩
  | 90 => ⟨S16x2048x2048, .f32⟩
  | 91 => ⟨S1x16x2048x2048, .f32⟩
  | 92 => ⟨S_, .f32⟩
  | 93 => ⟨S_, .f32⟩
  | 94 => ⟨S1x16x2048x2048, .f32⟩
  | 95 => ⟨S1x16x2048x2048, .f32⟩
  | 96 => ⟨S2048x2048, .i32⟩
  | 97 => ⟨S2048x2048, .i32⟩
  | 98 => ⟨S_, .i32⟩
  | 99 => ⟨S2048x2048, .i32⟩
  | 100 => ⟨S2048x2048, .i32⟩
  | 101 => ⟨S2048x2048, .i1⟩
  | 102 => ⟨S_, .f32⟩
  | 103 => ⟨S_, .f32⟩
  | 104 => ⟨S1x16x2048x2048, .i1⟩
  | 105 => ⟨S1x16x2048x2048, .f32⟩
  | 106 => ⟨S1x16x2048x2048, .f32⟩
  | 107 => ⟨S1x16x2048x2048, .f32⟩
  | 108 => ⟨S1x16x2048x2048, .f32⟩
  | 109 => ⟨S1x16x2048x2048, .f32⟩
  | 110 => ⟨S_, .f32⟩
  | 111 => ⟨S_, .f32⟩
  | 112 => ⟨S1x16x2048x2048, .f32⟩
  | 113 => ⟨S1x16x2048x2048, .f32⟩
  | 114 => ⟨S_, .f32⟩
  | 115 => ⟨S1x16x2048, .f32⟩
  | 116 => ⟨S_, .f32⟩
  | 117 => ⟨S1x16x2048, .f32⟩
  | 118 => ⟨S1x16x2048, .f32⟩
  | 119 => ⟨S1x16x2048x1, .f32⟩
  | 120 => ⟨S1x16x2048x2048, .f32⟩
  | 121 => ⟨S1x16x2048x2048, .f32⟩
  | 122 => ⟨S1x16x2048x2048, .f32⟩
  | 123 => ⟨S_, .f32⟩
  | 124 => ⟨S1x16x2048, .f32⟩
  | 125 => ⟨S1x16x2048x1, .f32⟩
  | 126 => ⟨S1x16x2048x2048, .f32⟩
  | 127 => ⟨S1x16x2048x2048, .f32⟩
  | _ => ⟨S1x2048x1024, .f32⟩

abbrev hbmTy0_1 (i : Nat) : BufTy := match i % 128 with
  | 0 => ⟨S16x2048x2048, .f32⟩
  | 1 => ⟨S16x2048x64, .f32⟩
  | 2 => ⟨S16x2048x64, .f32⟩
  | 3 => ⟨S1x16x2048x64, .f32⟩
  | 4 => ⟨S1x2048x16x64, .f32⟩
  | 5 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_v30 : Ref sig .tc := ⟨.hbm, 41, rfl⟩
abbrev main_c_0 : Ref sig .tc := ⟨.hbm, 42, rfl⟩
abbrev main_call0_v0 : Ref sig .tc := ⟨.hbm, 43, rfl⟩
abbrev main_call0_c : Ref sig .tc := ⟨.hbm, 44, rfl⟩
abbrev main_call0_v1 : Ref sig .tc := ⟨.hbm, 45, rfl⟩
abbrev main_call0_c_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_c_1 : Ref sig .tc := ⟨.hbm, 50, rfl⟩
abbrev main_call0_v5 : Ref sig .tc := ⟨.hbm, 51, rfl⟩
abbrev main_call0_v6 : Ref sig .tc := ⟨.hbm, 52, rfl⟩
abbrev main_call0_c_2 : Ref sig .tc := ⟨.hbm, 53, rfl⟩
abbrev main_call0_v7 : Ref sig .tc := ⟨.hbm, 54, rfl⟩
abbrev main_call0_v8 : Ref sig .tc := ⟨.hbm, 55, rfl⟩
abbrev main_call0_c_3 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_v12 : Ref sig .tc := ⟨.hbm, 60, rfl⟩
abbrev main_call0_v13 : Ref sig .tc := ⟨.hbm, 61, rfl⟩
abbrev main_call0_v14 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_c_1 : Ref sig .tc := ⟨.hbm, 71, rfl⟩
abbrev main_v39 : Ref sig .tc := ⟨.hbm, 72, rfl⟩
abbrev main_c_2 : Ref sig .tc := ⟨.hbm, 73, rfl⟩
abbrev main_v40 : Ref sig .tc := ⟨.hbm, 74, rfl⟩
abbrev main_call1_v0 : Ref sig .tc := ⟨.hbm, 75, rfl⟩
abbrev main_call1_c : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_c_0 : Ref sig .tc := ⟨.hbm, 81, rfl⟩
abbrev main_call1_v5 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_cst_3 : Ref sig .tc := ⟨.hbm, 92, rfl⟩
abbrev main_call2_v0 : Ref sig .tc := ⟨.hbm, 93, rfl⟩
abbrev main_call2_v1 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_c_4 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_cst_5 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_cst_6 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_cst_7 : Ref sig .tc := ⟨.hbm, 114, rfl⟩
abbrev main_v63 : Ref sig .tc := ⟨.hbm, 115, rfl⟩
abbrev main_cst_8 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_cst_9 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩

abbrev nD : Nat := 1
abbrev τ : Topo := Topo.v7x

variable {F : FTy → Type} [FloatOps F]
-- ==== Proof.Frames.lean ====
/- The frame claims of the three programs and the claim that the named constant keeps its literal. The two kernels'
   frames are the generated runs of their launches; the reference is a host program without semaphores, so its frame is
   its generated run. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Proof.Frames

open Idealize.ShloMosaic Idealize.SL.Sem

/-- From any memory the printed kernel runs to its end, leaves its arguments as they were and every semaphore at zero. -/
theorem kernel : Cert.quiescent_Kernel :=
  fun m ρ _ => Cert.Kernel.Gen.frame m ρ

/-- The same of the kernel with its scale named, over the extended reals. -/
theorem kernelIdeal : Cert.quiescent_KernelIdeal :=
  fun m ρ _ => Cert.KernelIdeal.Gen.frame m ρ

/-- From any memory the reference runs to its end, leaves its arguments as they were and every semaphore at zero. -/
theorem referenceIdeal : Cert.quiescent_ReferenceIdeal :=
  fun m ρ _ => (θ_run Cert.ReferenceIdeal.defs _ _).mono
    (fun r h => ⟨fun c => (h c).2, sem_eq_zero_of_no_sems (by decide) r.2⟩)
    (Cert.ReferenceIdeal.Value.run (F := Ideal) m ρ)

/-- The name "scale" stands for (1/8) / log 2, and the kernel's literal is that number's nearest value of its format. -/
theorem preserves : Cert.preserves_Kernel_KernelIdeal :=
  IdealRules.named_const.statement Cert.KernelIdeal.κ "scale" .f32 0x3E38AA3B#32
    (((1 / 8) * (Real.log 2)⁻¹ : ℝ) : EReal) rfl

end Cert.Proof.Frames

end
-- ==== Proof.Tile.lean ====
module

public import proofs.«01_k».proof.Proof.Gen.KernelIdeal
public import Idealize.ShloMosaic.Lib.Pointwise
public import Idealize.ShloMosaic.Lib.Pipeline.ValueKit

@[expose] public section

set_option maxRecDepth 16384

noncomputable section

namespace Cert.KernelIdeal.Tile

open Idealize.ShloMosaic Cert.KernelIdeal Cert.KernelIdeal.Gen

/-- The weight of the pair (i, j), i ≤ j: two to the scaled score where a hash bucket is shared, else one. -/
def E (qb kb : FVec Ideal S2048x64 .bf16) (hq : FVec Ideal S2048x4 .bf16) (hk : FVec Ideal S4x2048 .bf16)
    (i j : Fin 2048) : EReal :=
  if ∃ f : Fin 4, hq (ix2 i f) = hk (ix2 f j) then Ideal.exp2 (∑ d : Fin 64, qb (ix2 i d) * kb (ix2 j d)) else 1

/-- The matrix the scratch buffer holds the upper blocks of: the weights, mirrored at the diagonal. -/
def Sym (qb kb : FVec Ideal S2048x64 .bf16) (hq : FVec Ideal S2048x4 .bf16) (hk : FVec Ideal S4x2048 .bf16) :
    FVec Ideal S2048x2048 .bf16 :=
  fun y => if (y 0 : ℕ) ≤ y 1 then E qb kb hq hk (y 0) (y 1) else E qb kb hq hk (y 1) (y 0)

/-- A choice by a decided bit is the choice by the proposition. -/
theorem select_ite {α : Type} (p : Prop) [Decidable p] (x y : α) :
    Scalar.select (if p then 1#1 else 0#1) x y = if p then x else y := by
  by_cases h : p <;> simp [h, Scalar.select]

/-- Comparing two small counters as signed words compares them as numbers. -/
theorem sle_ite (x y : Fin 256) :
    IntOp.cmpi .sle (BitVec.ofNat 32 x) (BitVec.ofNat 32 y) = if x ≤ y then 1#1 else 0#1 := by
  have hx := x.2; have hy := y.2
  have h : (BitVec.ofNat 32 (x : ℕ)).sle (BitVec.ofNat 32 y) = decide (x ≤ y) := by
    rw [BitVec.sle_eq_decide, BitVec.toInt_ofNat', BitVec.toInt_ofNat', Int.bmod_eq_of_le (by omega) (by omega), Int.bmod_eq_of_le (by omega) (by omega)]
    simp
  simp only [IntOp.cmpi, h]
  by_cases c : x ≤ y <;> simp [c]

/-- The conjunction of two decided bits decides the conjunction. -/
theorem andi_ite (p q : Prop) [Decidable p] [Decidable q] :
    IntOp.andi (if p then 1#1 else 0#1) (if q then 1#1 else 0#1) = if p ∧ q then 1#1 else 0#1 := by
  by_cases h : p <;> by_cases h' : q <;> simp [h, h', IntOp.andi]

/-- The collision mask of a tile, as the kernel spells it. -/
abbrev maskOf (hqI : FVec Ideal S256x4 .bf16) (hk : FVec Ideal S4x2048 .bf16) (b : ℕ)
    (s0 : S256x4.Slices ![0, 0] S256x1) (s1 : S256x4.Slices ![0, 1] S256x1) (s2 : S256x4.Slices ![0, 2] S256x1)
    (s3 : S256x4.Slices ![0, 3] S256x1) (t0 : S4x2048.Slices ![0, b] S1x256) (t1 : S4x2048.Slices ![1, b] S1x256)
    (t2 : S4x2048.Slices ![2, b] S1x256) (t3 : S4x2048.Slices ![3, b] S1x256)
    (h1 : S256x1.Broadcasts S256x256) (h2 : S1x256.Broadcasts S256x256) : IVec S256x256 1 :=
  ori (ori (ori
    (cmpf .oeq (broadcastTo S256x256 (extractStridedSlice S256x1 ![0, 0] hqI s0) h1) (broadcastTo S256x256 (extractStridedSlice S1x256 ![0, b] hk t0) h2))
    (cmpf .oeq (broadcastTo S256x256 (extractStridedSlice S256x1 ![0, 1] hqI s1) h1) (broadcastTo S256x256 (extractStridedSlice S1x256 ![1, b] hk t1) h2)))
    (cmpf .oeq (broadcastTo S256x256 (extractStridedSlice S256x1 ![0, 2] hqI s2) h1) (broadcastTo S256x256 (extractStridedSlice S1x256 ![2, b] hk t2) h2)))
    (cmpf .oeq (broadcastTo S256x256 (extractStridedSlice S256x1 ![0, 3] hqI s3) h1) (broadcastTo S256x256 (extractStridedSlice S1x256 ![3, b] hk t3) h2))

/-- The mask of a tile: whether any of the four hashes agree. -/
theorem mask_apply (hq : FVec Ideal S2048x4 .bf16) (hk : FVec Ideal S4x2048 .bf16) (a b : ℕ)
    (s : S2048x4.Slices ![a, 0] S256x4) (s0 s1 s2 s3 t0 t1 t2 t3 h1 h2) (x y : Fin 256) (ha : a + x < 2048) (hb : b + y < 2048) :
    maskOf (extractStridedSlice S256x4 ![a, 0] hq s) hk b s0 s1 s2 s3 t0 t1 t2 t3 h1 h2 (ix2 x y)
      = if ∃ f : Fin 4, hq (ix2 ⟨a + x, ha⟩ f) = hk (ix2 f ⟨b + y, hb⟩) then 1#1 else 0#1 := by
  pointwise [maskOf]
  by_cases c0 : hq (ix2 ⟨a + x, ha⟩ 0) = hk (ix2 0 ⟨b + y, hb⟩) <;>
  by_cases c1 : hq (ix2 ⟨a + x, ha⟩ 1) = hk (ix2 1 ⟨b + y, hb⟩) <;>
  by_cases c2 : hq (ix2 ⟨a + x, ha⟩ 2) = hk (ix2 2 ⟨b + y, hb⟩) <;>
  by_cases c3 : hq (ix2 ⟨a + x, ha⟩ 3) = hk (ix2 3 ⟨b + y, hb⟩) <;>
  simp [Fin.exists_fin_succ, Fin.exists_fin_zero, IntOp.ori, c0, c1, c2, c3]

/-- The scores of a tile. -/
theorem score_apply (qb kb : FVec Ideal S2048x64 .bf16) (a b : ℕ) (s : S2048x64.Slices ![a, 0] S256x64)
    (s' : S2048x64.Slices ![b, 0] S256x64) (hw) (x y : Fin 256) (ha : a + x < 2048) (hb : b + y < 2048) :
    exp2 (truncf .bf16 (matmul dot_S256x64_S256x64_S256x256_1_1_0_0_n_n none (extractStridedSlice S256x64 ![a, 0] qb s)
        (extractStridedSlice S256x64 ![b, 0] kb s') (constant S256x256 .f32 0#32)) hw) (ix2 x y)
      = Ideal.exp2 (∑ d : Fin 64, qb (ix2 ⟨a + x, ha⟩ d) * kb (ix2 ⟨b + y, hb⟩ d)) := by
  pointwise
  rfl

/-- The place of a block's entry in the whole. -/
theorem emb_eq (a b : ℕ) (inb) (x y : Fin 256) (ha : a + x < 2048) (hb : b + y < 2048) :
    (Rect.unit (s := S2048x2048) ![a, b] S256x256.size inb).emb (ix2 x y) = ix2 ⟨a + x, ha⟩ ⟨b + y, hb⟩ := by
  funext k; fin_cases k <;> (apply Fin.ext; simp [Rect.emb_apply])

/-- A tile above the diagonal is the block of the mirrored matrix at its place. -/
theorem off (qb kb : FVec Ideal S2048x64 .bf16) (hq : FVec Ideal S2048x4 .bf16) (hk : FVec Ideal S4x2048 .bf16)
    (a b : ℕ) (hab : a + 256 ≤ b) (hb : b + 256 ≤ 2048)
    (s : S2048x4.Slices ![a, 0] S256x4) (s0 s1 s2 s3 t0 t1 t2 t3 h1 h2) (u : S2048x64.Slices ![a, 0] S256x64)
    (u' : S2048x64.Slices ![b, 0] S256x64) (hw) (hc) (inb) (z : S256x256.Idx) :
    shapeCast S256x256 (select (maskOf (extractStridedSlice S256x4 ![a, 0] hq s) hk b s0 s1 s2 s3 t0 t1 t2 t3 h1 h2)
      (exp2 (truncf .bf16 (matmul dot_S256x64_S256x64_S256x256_1_1_0_0_n_n none (extractStridedSlice S256x64 ![a, 0] qb u)
        (extractStridedSlice S256x64 ![b, 0] kb u') (constant S256x256 .f32 0#32)) hw))
      (broadcast S256x256 (FloatOps.ofBits FTy.bf16 16256#16))) hc z
      = Sym qb kb hq hk ((Rect.unit (s := S2048x2048) ![a, b] S256x256.size inb).emb z) := by
  idx_vars z
  rw [emb_eq a b inb z0 z1 (by omega) (by omega)]
  have hm := mask_apply hq hk a b s s0 s1 s2 s3 t0 t1 t2 t3 h1 h2 z0 z1 (by omega) (by omega)
  have hs := score_apply qb kb a b u u' hw z0 z1 (by omega) (by omega)
  generalize maskOf (extractStridedSlice S256x4 ![a, 0] hq s) hk b s0 s1 s2 s3 t0 t1 t2 t3 h1 h2 = M at hm ⊢
  generalize exp2 (truncf .bf16 (matmul dot_S256x64_S256x64_S256x256_1_1_0_0_n_n none (extractStridedSlice S256x64 ![a, 0] qb u)
        (extractStridedSlice S256x64 ![b, 0] kb u') (constant S256x256 .f32 0#32)) hw) = P at hs ⊢
  pointwise
  rw [hm, hs, select_ite]
  have hle : a + (z0 : ℕ) ≤ b + z1 := by omega
  simp only [Sym, E, ix2_0, ix2_1, hle, if_true]
  exact if_congr Iff.rfl rfl rfl

/-- A tile on the diagonal likewise: its upper triangle holds the weights and its lower one their mirror. -/
theorem diag (qb kb : FVec Ideal S2048x64 .bf16) (hq : FVec Ideal S2048x4 .bf16) (hk : FVec Ideal S4x2048 .bf16)
    (a : ℕ) (hb : a + 256 ≤ 2048)
    (s : S2048x4.Slices ![a, 0] S256x4) (s0 s1 s2 s3 t0 t1 t2 t3 h1 h2) (u : S2048x64.Slices ![a, 0] S256x64)
    (u' : S2048x64.Slices ![a, 0] S256x64) (hw) (ht) (hc) (hd) (hd') (inb) (z : S256x256.Idx) :
    shapeCast S256x256 (select (cmpi .sle (iota .tc S256x256 32 [0] hd) (iota .tc S256x256 32 [1] hd'))
        (select (andi (maskOf (extractStridedSlice S256x4 ![a, 0] hq s) hk a s0 s1 s2 s3 t0 t1 t2 t3 h1 h2) (cmpi .sle (iota .tc S256x256 32 [0] hd) (iota .tc S256x256 32 [1] hd')))
          (exp2 (truncf .bf16 (matmul dot_S256x64_S256x64_S256x256_1_1_0_0_n_n none (extractStridedSlice S256x64 ![a, 0] qb u)
            (extractStridedSlice S256x64 ![a, 0] kb u') (constant S256x256 .f32 0#32)) hw))
          (broadcast S256x256 (FloatOps.ofBits FTy.bf16 16256#16)))
        (transpose S256x256 [1, 0] (select (andi (maskOf (extractStridedSlice S256x4 ![a, 0] hq s) hk a s0 s1 s2 s3 t0 t1 t2 t3 h1 h2) (cmpi .sle (iota .tc S256x256 32 [0] hd) (iota .tc S256x256 32 [1] hd')))
          (exp2 (truncf .bf16 (matmul dot_S256x64_S256x64_S256x256_1_1_0_0_n_n none (extractStridedSlice S256x64 ![a, 0] qb u)
            (extractStridedSlice S256x64 ![a, 0] kb u') (constant S256x256 .f32 0#32)) hw))
          (broadcast S256x256 (FloatOps.ofBits FTy.bf16 16256#16))) ht)) hc z
      = Sym qb kb hq hk ((Rect.unit (s := S2048x2048) ![a, a] S256x256.size inb).emb z) := by
  idx_vars z
  rw [emb_eq a a inb z0 z1 (by omega) (by omega)]
  have hm := mask_apply hq hk a a s s0 s1 s2 s3 t0 t1 t2 t3 h1 h2
  have hs := score_apply qb kb a a u u' hw
  generalize maskOf (extractStridedSlice S256x4 ![a, 0] hq s) hk a s0 s1 s2 s3 t0 t1 t2 t3 h1 h2 = M at hm ⊢
  generalize exp2 (truncf .bf16 (matmul dot_S256x64_S256x64_S256x256_1_1_0_0_n_n none (extractStridedSlice S256x64 ![a, 0] qb u)
        (extractStridedSlice S256x64 ![a, 0] kb u') (constant S256x256 .f32 0#32)) hw) = P at hs ⊢
  have hle : (a + (z0 : ℕ) ≤ a + z1) ↔ z0 ≤ z1 := by simp
  pointwise
  rw [hm z0 z1 (by omega) (by omega), hs z0 z1 (by omega) (by omega), hm z1 z0 (by omega) (by omega), hs z1 z0 (by omega) (by omega)]
  rw [sle_ite, sle_ite, andi_ite, andi_ite, select_ite, select_ite, select_ite]
  simp only [Sym, E, ix2_0, ix2_1, hle]
  rcases le_or_gt z0 z1 with h | h
  · rw [if_pos h, if_pos h]
    exact if_congr (and_iff_left h) rfl rfl
  · rw [if_neg h.not_ge, if_neg h.not_ge]
    exact if_congr (and_iff_left h.le) rfl rfl

end Cert.KernelIdeal.Tile
end
-- ==== Proof.Acc.lean ====
module

public import proofs.«01_k».proof.Proof.Tile
public import Idealize.ShloMosaic.Lib.Pipeline.ReadBack

@[expose] public section

set_option maxRecDepth 16384

noncomputable section

namespace Cert.KernelIdeal.Acc

open Idealize.ShloMosaic Cert.KernelIdeal Cert.KernelIdeal.Gen

/-- The stores `L` leave the block of `G` at every offset pair listed in `K`. -/
def Good (G : FVec Ideal S2048x2048 .bf16) (K : List (ℕ × ℕ)) (L : List (View.Piece (Elt Ideal) S2048x2048 .bf16)) : Prop :=
  ∀ i j : Fin 2048, ((i : ℕ) / 256 * 256, (j : ℕ) / 256 * 256) ∈ K → View.canon L (ix2 i j) = G (ix2 i j)

/-- Nothing is claimed of no offsets. -/
theorem Good.nil (G : FVec Ideal S2048x2048 .bf16) (L) : Good G [] L := fun _ _ h => absurd h List.not_mem_nil

/-- One more store, of a block of `G`, adds its own offsets. -/
theorem Good.cons {G : FVec Ideal S2048x2048 .bf16} {K} {L} (a b : ℕ) (inb) (w : S256x256.Idx → Elt Ideal .bf16)
    (hw : ∀ z : S256x256.Idx, w z = G ((Rect.unit (s := S2048x2048) ![a, b] S256x256.size inb).emb z)) (h : Good G K L) :
    Good G ((a, b) :: K) (⟨Rect.unit (s := S2048x2048) ![a, b] S256x256.size inb, w⟩ :: L) := by
  intro i j hij
  by_cases hm : (ix2 i j : S2048x2048.Idx) ∈ (Rect.unit (s := S2048x2048) ![a, b] S256x256.size inb).set
  · obtain ⟨z, hz⟩ := LoadRect.exists_idx_of_mem _ hm
    have hz' : (Rect.unit (s := S2048x2048) ![a, b] S256x256.size inb).emb z = ix2 i j := hz
    rw [← hz', View.canon_cons_emb]
    exact hw z
  · rw [View.canon_cons_of_not_mem (⟨Rect.unit (s := S2048x2048) ![a, b] S256x256.size inb, w⟩ : View.Piece (Elt Ideal) S2048x2048 .bf16) L hm]
    refine h i j ((List.mem_cons.mp hij).resolve_left fun e => hm ?_)
    obtain ⟨rfl, rfl⟩ := Prod.mk.inj e
    rw [Rect.mem_set_unit]
    intro k
    fin_cases k <;> (simp; omega)

/-- A load of a listed block reads `G` there. -/
theorem Good.load {G : FVec Ideal S2048x2048 .bf16} {K} {L} (h : Good G K L) {sig : RefSig} {κ : Kind} {sp : Space}
    (v : View sig κ sp S2048x2048 .bf16) (p q : ℕ) (hK : (256 * p, 256 * q) ∈ K) (a b : ℕ) (ha : a = 256 * p) (hb : b = 256 * q) (inb)
    (x y : Fin 256) (hx : 256 * p + x < 2048) (hy : 256 * q + y < 2048) :
    v.readCov L (Rect.unit (s := S2048x2048) ![a, b] ![256, 256] inb).toLoadRect (ix2 x y)
      = G (ix2 ⟨256 * p + x, hx⟩ ⟨256 * q + y, hy⟩) := by
  subst ha hb
  rw [View.readCov_eq_canon']
  show View.canon L ((Rect.unit (s := S2048x2048) ![256 * p, 256 * q] S256x256.size inb).emb (ix2 x y)) = _
  rw [Tile.emb_eq _ _ _ x y hx hy]
  refine h _ _ ?_
  have e1 : (256 * p + (x : ℕ)) / 256 * 256 = 256 * p := by omega
  have e2 : (256 * q + (y : ℕ)) / 256 * 256 = 256 * q := by omega
  simpa only [e1, e2] using hK

/-- Column `y` of column block `b`. -/
def pt (b : ℕ) (y : Fin 256) : Fin 2048 := Fin.ofNat 2048 (256 * b + y)

/-- The row a tile and a row in it name. -/
theorem pt_eq (b : ℕ) (y : Fin 256) (h : 256 * b + y < 2048) : pt b y = ⟨256 * b + y, h⟩ :=
  Fin.ext (Nat.mod_eq_of_lt h)

/-- The accumulator of row block `p` once the first `n` column blocks are in. -/
def Acc (G : FVec Ideal S2048x2048 .bf16) (ve : FVec Ideal S2048x128 .bf16) (p n : ℕ) (r : FVec Ideal S256x128 .f32) : Prop :=
  ∀ (x : Fin 256) (d : Fin 128),
    r (ix2 x d) = ∑ b ∈ Finset.range n, ∑ y : Fin 256, G (ix2 (pt p x) (pt b y)) * ve (ix2 (pt b y) d)

/-- Before any tile the accumulator is zero. -/
theorem Acc.zero (G : FVec Ideal S2048x2048 .bf16) (ve : FVec Ideal S2048x128 .bf16) (p : ℕ) :
    Acc G ve p 0 (broadcast S256x128 (FloatOps.ofBits FTy.f32 0x00000000#32)) := by
  intro x d
  pointwise
  rfl

/-- A tile of the joined values, read in the whole. -/
theorem ve_block (ve : FVec Ideal S2048x128 .bf16) (n : ℕ) (hn : n < 8) (b : ℕ) (hb : b = 256 * n) (s) (y : Fin 256) (d : Fin 128) :
    extractStridedSlice S256x128 ![b, 0] ve s (ix2 y d) = ve (ix2 (pt n y) d) := by
  subst hb
  rw [pt_eq n y (by omega)]
  pointwise

/-- A block on or above the diagonal is loaded as stored and multiplied in. -/
theorem Acc.nn {G : FVec Ideal S2048x2048 .bf16} {ve : FVec Ideal S2048x128 .bf16} {K} {L} (hL : Good G K L) {p n : ℕ} (hn : n < 8) (hp : p < 8)
    (hK : (256 * p, 256 * n) ∈ K) {r : FVec Ideal S256x128 .f32} (h : Acc G ve p n r) {sig : RefSig} {κ : Kind} {sp : Space}
    (v : View sig κ sp S2048x2048 .bf16) (a b : ℕ) (ha : a = 256 * p) (hb : b = 256 * n) (inb) (s) :
    Acc G ve p (n + 1) (addf r (matmul (φ₁ := .bf16) (φ₂ := .bf16) dot_S256x256_S256x128_S256x128_1_0_0_1_n_n none
      (v.readCov L (Rect.unit (s := S2048x2048) ![a, b] ![256, 256] inb).toLoadRect) (extractStridedSlice S256x128 ![b, 0] ve s)
      (constant S256x128 .f32 0x00000000#32))) := by
  intro x d
  have hl : ∀ y : Fin 256, v.readCov L (Rect.unit (s := S2048x2048) ![a, b] ![256, 256] inb).toLoadRect (ix2 x y) = G (ix2 (pt p x) (pt n y)) := fun y => by
    rw [hL.load v p n hK a b ha hb inb x y (by omega) (by omega), pt_eq p x (by omega), pt_eq n y (by omega)]
  generalize v.readCov L (Rect.unit (s := S2048x2048) ![a, b] ![256, 256] inb).toLoadRect = W at hl ⊢
  have hv := ve_block ve n hn b hb s
  generalize extractStridedSlice S256x128 ![b, 0] ve s = V at hv ⊢
  rw [Finset.sum_range_succ, ← h x d]
  pointwise
  simp only [hl, hv]

/-- A block below the diagonal is its mirror image, loaded and contracted on its rows. -/
theorem Acc.tn {G : FVec Ideal S2048x2048 .bf16} {ve : FVec Ideal S2048x128 .bf16} {K} {L} (hL : Good G K L)
    (hS : ∀ i j : Fin 2048, G (ix2 i j) = G (ix2 j i)) {p n : ℕ} (hn : n < 8) (hp : p < 8)
    (hK : (256 * n, 256 * p) ∈ K) {r : FVec Ideal S256x128 .f32} (h : Acc G ve p n r) {sig : RefSig} {κ : Kind} {sp : Space}
    (v : View sig κ sp S2048x2048 .bf16) (a b : ℕ) (ha : a = 256 * n) (hb : b = 256 * p) (inb) (s) :
    Acc G ve p (n + 1) (addf r (matmul (φ₁ := .bf16) (φ₂ := .bf16) dot_S256x256_S256x128_S256x128_0_0_1_1_n_n none
      (v.readCov L (Rect.unit (s := S2048x2048) ![a, b] ![256, 256] inb).toLoadRect) (extractStridedSlice S256x128 ![a, 0] ve s)
      (constant S256x128 .f32 0x00000000#32))) := by
  intro x d
  have hl : ∀ y : Fin 256, v.readCov L (Rect.unit (s := S2048x2048) ![a, b] ![256, 256] inb).toLoadRect (ix2 y x) = G (ix2 (pt p x) (pt n y)) := fun y => by
    rw [hL.load v n p hK a b ha hb inb y x (by omega) (by omega), hS, pt_eq p x (by omega), pt_eq n y (by omega)]
  generalize v.readCov L (Rect.unit (s := S2048x2048) ![a, b] ![256, 256] inb).toLoadRect = W at hl ⊢
  have hv := ve_block ve n hn a ha s
  generalize extractStridedSlice S256x128 ![a, 0] ve s = V at hv ⊢
  rw [Finset.sum_range_succ, ← h x d]
  pointwise
  simp only [hl, hv]

/-- The quotient row of a weight matrix against values whose column 64 is their normaliser. -/
def att (G : FVec Ideal S2048x2048 .bf16) (ve : FVec Ideal S2048x128 .bf16) (i : Fin 2048) (d : Fin 64) : EReal :=
  Ideal.div (∑ j : Fin 2048, G (ix2 i j) * ve (ix2 j ⟨d, by omega⟩)) (∑ j : Fin 2048, G (ix2 i j) * ve (ix2 j 64))

/-- Summing over the eight column blocks sums over the columns. -/
theorem sum_blocks (f : Fin 2048 → EReal) : ∑ b ∈ Finset.range 8, ∑ y : Fin 256, f (pt b y) = ∑ j, f j := by
  rw [Fin.sum_univ_tiles 8 256 rfl f, Finset.sum_range]
  refine Finset.sum_congr rfl fun b _ => Finset.sum_congr rfl fun y _ => ?_
  rw [pt_eq b y (by omega)]
  exact congrArg f (Fin.ext (by simp only; omega))

/-- The tile stored once all eight column blocks are in. -/
theorem Acc.out {G : FVec Ideal S2048x2048 .bf16} {ve : FVec Ideal S2048x128 .bf16} {p : ℕ} {r : FVec Ideal S256x128 .f32} (h : Acc G ve p 8 r)
    (s s' b c) (x : Fin 256) (d : Fin 64) :
    shapeCast S1x256x64 (divf (extractStridedSlice S256x64 ![0, 0] r s) (broadcastTo S256x64 (extractStridedSlice S256x1 ![0, 64] r s') b)) c (ix3 0 x d)
      = att G ve (pt p x) d := by
  pointwise
  rw [h, h, sum_blocks (fun j => G (ix2 (pt p x) j) * ve (ix2 j _)), sum_blocks (fun j => G (ix2 (pt p x) j) * ve (ix2 j _))]
  rfl

end Cert.KernelIdeal.Acc
end
-- ==== Proof.Pieces.lean ====
module

public import proofs.«01_k».proof.Proof.Acc
public import proofs.«01_k».proof.Proof.Gen.KernelIdeal.Frame
public import Idealize.ShloMosaic.Lib.Pipeline.ReadBack

@[expose] public section

set_option maxRecDepth 16384
set_option maxHeartbeats 400000

noncomputable section

namespace Cert.KernelIdeal.Pieces

open Idealize.ShloMosaic Cert.KernelIdeal Cert.KernelIdeal.Gen Cert.KernelIdeal.Gen.kernelRun0_A

variable (c : Dev nD) (arg1 : Memref sig .tc .vmem S2048x1024 .f32) (harg1 : arg1.IsWhole) (arg2 : Memref sig .tc .vmem S128x1024 .f32) (harg2 : arg2.IsWhole) (arg3 : Memref sig .tc .vmem S1x1x128 .f32) (harg3 : arg3.IsWhole) (arg4 : Memref sig .tc .vmem S128x1024 .f32) (harg4 : arg4.IsWhole) (arg5 : Memref sig .tc .vmem S1x1x128 .f32) (harg5 : arg5.IsWhole) (arg6 : Memref sig .tc .vmem S128x1024 .f32) (harg6 : arg6.IsWhole) (arg7 : Memref sig .tc .vmem S1x1x128 .f32) (harg7 : arg7.IsWhole) (arg8 : Memref sig .tc .vmem S1x64x64 .f32) (harg8 : arg8.IsWhole) (arg9 : Memref sig .tc .vmem S1x1x64 .f32) (harg9 : arg9.IsWhole) (arg11 : Memref sig .tc .vmem S2048x2048 .bf16) (harg11 : arg11.IsWhole)
  (x0 : Vec Ideal S2048x1024 .f32) (x1 : Vec Ideal S128x1024 .f32) (x2 : Vec Ideal S1x1x128 .f32) (x3 : Vec Ideal S128x1024 .f32) (x4 : Vec Ideal S1x1x128 .f32) (x5 : Vec Ideal S128x1024 .f32) (x6 : Vec Ideal S1x1x128 .f32) (x7 : Vec Ideal S1x64x64 .f32) (x8 : Vec Ideal S1x1x64 .f32)

/-- The mirrored weights of the pair's first head. -/
abbrev sym0 : FVec Ideal S2048x2048 .bf16 :=
  Tile.Sym (sl.r_2 c arg1 harg1 arg2 harg2 arg3 harg3 x0 x1 x2) (sl.r_3 c arg1 harg1 arg4 harg4 arg5 harg5 x0 x3 x4) (sl.r c arg1 harg1 arg2 harg2 arg3 harg3 arg8 harg8 arg9 harg9 x0 x1 x2 x7 x8) (sl.r_1 c arg1 harg1 arg4 harg4 arg5 harg5 arg8 harg8 arg9 harg9 x0 x3 x4 x7 x8)

/-- The mirrored weights of the pair's second head. -/
abbrev sym1 : FVec Ideal S2048x2048 .bf16 :=
  Tile.Sym (sl.r_10 c arg1 harg1 arg2 harg2 arg3 harg3 x0 x1 x2) (sl.r_11 c arg1 harg1 arg4 harg4 arg5 harg5 x0 x3 x4) (sl.r_8 c arg1 harg1 arg2 harg2 arg3 harg3 arg8 harg8 arg9 harg9 x0 x1 x2 x7 x8) (sl.r_9 c arg1 harg1 arg4 harg4 arg5 harg5 arg8 harg8 arg9 harg9 x0 x3 x4 x7 x8)

/-- The offsets of the tiles on or above the diagonal, last stored first. -/
def upper : List (ℕ × ℕ) :=
  [(1792, 1792), (1536, 1792), (1536, 1536), (1280, 1792), (1280, 1536), (1280, 1280), (1024, 1792), (1024, 1536), (1024, 1280), (1024, 1024), (768, 1792), (768, 1536), (768, 1280), (768, 1024), (768, 768), (512, 1792), (512, 1536), (512, 1280), (512, 1024), (512, 768), (512, 512), (256, 1792), (256, 1536), (256, 1280), (256, 1024), (256, 768), (256, 512), (256, 256), (0, 1792), (0, 1536), (0, 1280), (0, 1024), (0, 768), (0, 512), (0, 256), (0, 0)]

/-- A store above the diagonal, kept apart from one on it. -/
theorem above {G : FVec Ideal S2048x2048 .bf16} {K} {L} {a b : ℕ} {inb} {w : S256x256.Idx → Elt Ideal .bf16} (_ : a + 256 ≤ b)
    (hw : ∀ z : S256x256.Idx, w z = G ((Rect.unit (s := S2048x2048) ![a, b] S256x256.size inb).emb z)) (h : Acc.Good G K L) :
    Acc.Good G ((a, b) :: K) (⟨Rect.unit (s := S2048x2048) ![a, b] S256x256.size inb, w⟩ :: L) :=
  Acc.Good.cons a b inb w hw h

/-- A store on the diagonal. -/
theorem onto {G : FVec Ideal S2048x2048 .bf16} {K} {L} {a : ℕ} {inb} {w : S256x256.Idx → Elt Ideal .bf16}
    (hw : ∀ z : S256x256.Idx, w z = G ((Rect.unit (s := S2048x2048) ![a, a] S256x256.size inb).emb z)) (h : Acc.Good G K L) :
    Acc.Good G ((a, a) :: K) (⟨Rect.unit (s := S2048x2048) ![a, a] S256x256.size inb, w⟩ :: L) :=
  Acc.Good.cons a a inb w hw h

/-- The first head's stores leave its mirrored weights at the upper tiles. -/
theorem good0 : Acc.Good (sym0 c arg1 harg1 arg2 harg2 arg3 harg3 arg4 harg4 arg5 harg5 arg8 harg8 arg9 harg9 x0 x1 x2 x3 x4 x7 x8) upper (sl.HS0_36 c arg1 harg1 arg2 harg2 arg3 harg3 arg4 harg4 arg5 harg5 arg8 harg8 arg9 harg9 x0 x1 x2 x3 x4 x7 x8) := by
  unfold upper
  iterate 36
    first
    | refine above (by decide) (fun z => ?_) ?_
      · exact Tile.off (sl.r_2 c arg1 harg1 arg2 harg2 arg3 harg3 x0 x1 x2) (sl.r_3 c arg1 harg1 arg4 harg4 arg5 harg5 x0 x3 x4) (sl.r c arg1 harg1 arg2 harg2 arg3 harg3 arg8 harg8 arg9 harg9 x0 x1 x2 x7 x8) (sl.r_1 c arg1 harg1 arg4 harg4 arg5 harg5 arg8 harg8 arg9 harg9 x0 x3 x4 x7 x8)
          _ _ (by decide) (by decide) (by decide) (by decide) (by decide) (by decide) (by decide) (by decide) (by decide) (by decide) (by decide) (by decide) (by decide) (by decide) (by decide) (by decide) (by decide) _ z
    | refine onto (fun z => ?_) ?_
      · exact Tile.diag (sl.r_2 c arg1 harg1 arg2 harg2 arg3 harg3 x0 x1 x2) (sl.r_3 c arg1 harg1 arg4 harg4 arg5 harg5 x0 x3 x4) (sl.r c arg1 harg1 arg2 harg2 arg3 harg3 arg8 harg8 arg9 harg9 x0 x1 x2 x7 x8) (sl.r_1 c arg1 harg1 arg4 harg4 arg5 harg5 arg8 harg8 arg9 harg9 x0 x3 x4 x7 x8)
          _ (by decide) (by decide) (by decide) (by decide) (by decide) (by decide) (by decide) (by decide) (by decide) (by decide) (by decide) (by decide) (by decide) (by decide) (by decide) (by decide) (by decide) (by decide) (by decide) _ z
  exact Acc.Good.nil _ _

/-- The second head's stores leave its mirrored weights there. -/
theorem good1 : Acc.Good (sym1 c arg1 harg1 arg2 harg2 arg3 harg3 arg4 harg4 arg5 harg5 arg8 harg8 arg9 harg9 x0 x1 x2 x3 x4 x7 x8) upper (sl.HS0_72 c arg1 harg1 arg2 harg2 arg3 harg3 arg4 harg4 arg5 harg5 arg8 harg8 arg9 harg9 x0 x1 x2 x3 x4 x7 x8) := by
  unfold upper
  iterate 36
    first
    | refine above (by decide) (fun z => ?_) ?_
      · exact Tile.off (sl.r_10 c arg1 harg1 arg2 harg2 arg3 harg3 x0 x1 x2) (sl.r_11 c arg1 harg1 arg4 harg4 arg5 harg5 x0 x3 x4) (sl.r_8 c arg1 harg1 arg2 harg2 arg3 harg3 arg8 harg8 arg9 harg9 x0 x1 x2 x7 x8) (sl.r_9 c arg1 harg1 arg4 harg4 arg5 harg5 arg8 harg8 arg9 harg9 x0 x3 x4 x7 x8)
          _ _ (by decide) (by decide) (by decide) (by decide) (by decide) (by decide) (by decide) (by decide) (by decide) (by decide) (by decide) (by decide) (by decide) (by decide) (by decide) (by decide) (by decide) _ z
    | refine onto (fun z => ?_) ?_
      · exact Tile.diag (sl.r_10 c arg1 harg1 arg2 harg2 arg3 harg3 x0 x1 x2) (sl.r_11 c arg1 harg1 arg4 harg4 arg5 harg5 x0 x3 x4) (sl.r_8 c arg1 harg1 arg2 harg2 arg3 harg3 arg8 harg8 arg9 harg9 x0 x1 x2 x7 x8) (sl.r_9 c arg1 harg1 arg4 harg4 arg5 harg5 arg8 harg8 arg9 harg9 x0 x3 x4 x7 x8)
          _ (by decide) (by decide) (by decide) (by decide) (by decide) (by decide) (by decide) (by decide) (by decide) (by decide) (by decide) (by decide) (by decide) (by decide) (by decide) (by decide) (by decide) (by decide) (by decide) _ z
  exact Acc.Good.nil _ _

end Cert.KernelIdeal.Pieces
end
-- ==== Proof.Out.lean ====
module

public import proofs.«01_k».proof.Proof.Pieces
public import proofs.«01_k».proof.Proof.Gen.KernelIdeal.Frame
public import Idealize.ShloMosaic.Lib.Pipeline.ReadBack

@[expose] public section

set_option maxRecDepth 16384
set_option maxHeartbeats 400000

noncomputable section

namespace Cert.KernelIdeal.Out

open Idealize.ShloMosaic Cert.KernelIdeal Cert.KernelIdeal.Gen Cert.KernelIdeal.Gen.kernelRun0_A Cert.KernelIdeal.Pieces

variable (c : Dev nD) (arg1 : Memref sig .tc .vmem S2048x1024 .f32) (harg1 : arg1.IsWhole) (arg2 : Memref sig .tc .vmem S128x1024 .f32) (harg2 : arg2.IsWhole) (arg3 : Memref sig .tc .vmem S1x1x128 .f32) (harg3 : arg3.IsWhole) (arg4 : Memref sig .tc .vmem S128x1024 .f32) (harg4 : arg4.IsWhole) (arg5 : Memref sig .tc .vmem S1x1x128 .f32) (harg5 : arg5.IsWhole) (arg6 : Memref sig .tc .vmem S128x1024 .f32) (harg6 : arg6.IsWhole) (arg7 : Memref sig .tc .vmem S1x1x128 .f32) (harg7 : arg7.IsWhole) (arg8 : Memref sig .tc .vmem S1x64x64 .f32) (harg8 : arg8.IsWhole) (arg9 : Memref sig .tc .vmem S1x1x64 .f32) (harg9 : arg9.IsWhole) (arg10 : Memref sig .tc .vmem S1x2048x128 .f32) (harg10 : arg10.IsWhole) (arg11 : Memref sig .tc .vmem S2048x2048 .bf16) (harg11 : arg11.IsWhole)
  (x0 : Vec Ideal S2048x1024 .f32) (x1 : Vec Ideal S128x1024 .f32) (x2 : Vec Ideal S1x1x128 .f32) (x3 : Vec Ideal S128x1024 .f32) (x4 : Vec Ideal S1x1x128 .f32) (x5 : Vec Ideal S128x1024 .f32) (x6 : Vec Ideal S1x1x128 .f32) (x7 : Vec Ideal S1x64x64 .f32) (x8 : Vec Ideal S1x1x64 .f32)

/-- A mirrored matrix is symmetric. -/
theorem sym_symm (qb kb : FVec Ideal S2048x64 .bf16) (hq : FVec Ideal S2048x4 .bf16) (hk : FVec Ideal S4x2048 .bf16)
    (i j : Fin 2048) : Tile.Sym qb kb hq hk (ix2 i j) = Tile.Sym qb kb hq hk (ix2 j i) := by
  show (if (i : ℕ) ≤ j then Tile.E qb kb hq hk i j else Tile.E qb kb hq hk j i)
    = if (j : ℕ) ≤ i then Tile.E qb kb hq hk j i else Tile.E qb kb hq hk i j
  split_ifs with h h' h'
  · rw [Fin.ext (le_antisymm h h')]
  · rfl
  · rfl
  · omega

/-- What one grid point leaves in the output block, over the two heads' weights and values. -/
def OUT (G0 G1 : FVec Ideal S2048x2048 .bf16) (v0 v1 : FVec Ideal S2048x128 .bf16) : FVec Ideal S1x2048x128 .f32 := fun y =>
  if h : (y 2 : ℕ) < 64 then Acc.att G0 v0 (y 1) ⟨y 2, h⟩ else Acc.att G1 v1 (y 1) ⟨(y 2 : ℕ) - 64, by have := (y 2).2; simp at this; omega⟩

variable {G0 G1 : FVec Ideal S2048x2048 .bf16} {v0 v1 : FVec Ideal S2048x128 .bf16}

/-- The tile of row block `p` of the first head is a block of the output. -/
theorem tile0 (a : ℕ) (hp : a / 256 < 8) (ha : a = 256 * (a / 256)) {r : FVec Ideal S256x128 .f32} (h : Acc.Acc G0 v0 (a / 256) 8 r) (inb) (s s' b c')
    (z : S1x256x64.Idx) :
    shapeCast S1x256x64 (divf (extractStridedSlice S256x64 ![0, 0] r s) (broadcastTo S256x64 (extractStridedSlice S256x1 ![0, 64] r s') b)) c' z
      = OUT G0 G1 v0 v1 ((Rect.unit (s := S1x2048x128) ![0, a, 0] S1x256x64.size inb).emb z) := by
  idx_vars z
  obtain rfl : z0 = 0 := Subsingleton.elim _ _
  generalize a / 256 = p at *
  subst ha
  rw [h.out]
  have e : (Rect.unit (s := S1x2048x128) ![0, 256 * p, 0] S1x256x64.size inb).emb (ix3 0 z1 z2) = ix3 0 (Acc.pt p z1) ⟨z2, by omega⟩ := by
    rw [Acc.pt_eq p z1 (by omega)]
    funext k; fin_cases k <;> (apply Fin.ext; simp [Rect.emb_apply])
  rw [e]
  unfold OUT
  refine Eq.trans ?_ (dif_pos (show (z2 : ℕ) < 64 from z2.2)).symm
  rfl

/-- The tile of row block `p` of the second head likewise. -/
theorem tile1 (a : ℕ) (hp : a / 256 < 8) (ha : a = 256 * (a / 256)) {r : FVec Ideal S256x128 .f32} (h : Acc.Acc G1 v1 (a / 256) 8 r) (inb) (s s' b c')
    (z : S1x256x64.Idx) :
    shapeCast S1x256x64 (divf (extractStridedSlice S256x64 ![0, 0] r s) (broadcastTo S256x64 (extractStridedSlice S256x1 ![0, 64] r s') b)) c' z
      = OUT G0 G1 v0 v1 ((Rect.unit (s := S1x2048x128) ![0, a, 64] S1x256x64.size inb).emb z) := by
  idx_vars z
  obtain rfl : z0 = 0 := Subsingleton.elim _ _
  generalize a / 256 = p at *
  subst ha
  rw [h.out]
  have e : (Rect.unit (s := S1x2048x128) ![0, 256 * p, 64] S1x256x64.size inb).emb (ix3 0 z1 z2) = ix3 0 (Acc.pt p z1) ⟨64 + z2, by omega⟩ := by
    rw [Acc.pt_eq p z1 (by omega)]
    funext k; fin_cases k <;> (apply Fin.ext; simp [Rect.emb_apply])
  rw [e]
  unfold OUT
  refine Eq.trans ?_ (dif_neg (show ¬ 64 + (z2 : ℕ) < 64 by omega)).symm
  exact congrArg _ (Fin.ext (show (z2 : ℕ) = 64 + z2 - 64 by omega))

/-- At or right of the diagonal. -/
theorem right {G : FVec Ideal S2048x2048 .bf16} {ve : FVec Ideal S2048x128 .bf16} {p n : ℕ} {r} (_ : p ≤ n) (h : Acc.Acc G ve p (n + 1) r) : Acc.Acc G ve p (n + 1) r := h

/-- Left of the diagonal. -/
theorem left {G : FVec Ideal S2048x2048 .bf16} {ve : FVec Ideal S2048x128 .bf16} {p n : ℕ} {r} (_ : n < p) (h : Acc.Acc G ve p (n + 1) r) : Acc.Acc G ve p (n + 1) r := h

/-- Every store into the output block is a block of `OUT`. -/
theorem pieces (i : grid0.Coords) : View.PiecesOf (OUT (sym0 c arg1 harg1 arg2 harg2 arg3 harg3 arg4 harg4 arg5 harg5 arg8 harg8 arg9 harg9 x0 x1 x2 x3 x4 x7 x8) (sym1 c arg1 harg1 arg2 harg2 arg3 harg3 arg4 harg4 arg5 harg5 arg8 harg8 arg9 harg9 x0 x1 x2 x3 x4 x7 x8) (sl.v1294 c arg1 harg1 arg6 harg6 arg7 harg7 x0 x5 x6) (sl.v2850 c arg1 harg1 arg6 harg6 arg7 harg7 x0 x5 x6))
    (kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6 x7 x8).1 := by
  have h0 := good0 c arg1 harg1 arg2 harg2 arg3 harg3 arg4 harg4 arg5 harg5 arg8 harg8 arg9 harg9 x0 x1 x2 x3 x4 x7 x8
  have h1 := good1 c arg1 harg1 arg2 harg2 arg3 harg3 arg4 harg4 arg5 harg5 arg8 harg8 arg9 harg9 x0 x1 x2 x3 x4 x7 x8
  iterate 8
    refine ⟨fun z => tile1 _ (by decide) rfl ?_ (by decide) (by decide) (by decide) (by decide) (by decide) z, ?_⟩
    · iterate 8
        first
        | refine right (by decide) ?_
          refine Acc.Acc.nn h1 (by decide) (by decide) (by decide) ?_ _ _ _ rfl rfl (by decide) (by decide)
        | refine left (by decide) ?_
          refine Acc.Acc.tn h1 (sym_symm _ _ _ _) (by decide) (by decide) (by decide) ?_ _ _ _ rfl rfl (by decide) (by decide)
      exact Acc.Acc.zero _ _ _
  iterate 8
    refine ⟨fun z => tile0 _ (by decide) rfl ?_ (by decide) (by decide) (by decide) (by decide) (by decide) z, ?_⟩
    · iterate 8
        first
        | refine right (by decide) ?_
          refine Acc.Acc.nn h0 (by decide) (by decide) (by decide) ?_ _ _ _ rfl rfl (by decide) (by decide)
        | refine left (by decide) ?_
          refine Acc.Acc.tn h0 (sym_symm _ _ _ _) (by decide) (by decide) (by decide) ?_ _ _ _ rfl rfl (by decide) (by decide)
      exact Acc.Acc.zero _ _ _
  exact trivial

/-- What one grid point leaves in the output block. -/
theorem out_eq (i : grid0.Coords) : out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8
    = OUT (sym0 c arg1 harg1 arg2 harg2 arg3 harg3 arg4 harg4 arg5 harg5 arg8 harg8 arg9 harg9 x0 x1 x2 x3 x4 x7 x8) (sym1 c arg1 harg1 arg2 harg2 arg3 harg3 arg4 harg4 arg5 harg5 arg8 harg8 arg9 harg9 x0 x1 x2 x3 x4 x7 x8) (sl.v1294 c arg1 harg1 arg6 harg6 arg7 harg7 x0 x5 x6) (sl.v2850 c arg1 harg1 arg6 harg6 arg7 harg7 x0 x5 x6) := by
  funext y
  unfold out0_A_9
  rw [View.read_writes_junk_eq_canon, ← List.append_nil (kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6 x7 x8).1]
  exact View.canon_append_of_piecesOf _ [] _ (pieces c arg1 harg1 arg2 harg2 arg3 harg3 arg4 harg4 arg5 harg5 arg6 harg6 arg7 harg7 arg8 harg8 arg9 harg9 arg10 harg10 arg11 harg11 x0 x1 x2 x3 x4 x5 x6 x7 x8 i) y (cover0_A_9 c i arg1 harg1 arg2 harg2 arg3 harg3 arg4 harg4 arg5 harg5 arg6 harg6 arg7 harg7 arg8 harg8 arg9 harg9 arg10 harg10 arg11 harg11 x0 x1 x2 x3 x4 x5 x6 x7 x8 y)

end Cert.KernelIdeal.Out
end
-- ==== Proof.Leaf.lean ====
module

public import proofs.«01_k».proof.Proof.Out
public import Idealize.ShloMosaic.Lib.Pointwise

@[expose] public section

set_option maxRecDepth 16384

noncomputable section

namespace Cert.KernelIdeal.Leaf

open Idealize.ShloMosaic Cert.KernelIdeal Cert.KernelIdeal.Gen Cert.KernelIdeal.Gen.kernelRun0_A Cert.KernelIdeal.Pieces

/-! ## One head, in scalars -/

/-- The coefficients of the projections a row is on the positive side of. -/
def pick (R : Fin 32 → Fin 64 → EReal) (cf : Fin 32 → EReal) (u : Fin 64 → EReal) (n : Fin 32) : EReal :=
  if 0 < ∑ d : Fin 64, u d * R n d then cf n else 0

/-- A row's hash in table `f`: the picked coefficients of the table summed, less the multiple of 256 below. -/
def hash (w : Fin 32 → EReal) (f : Fin 4) : EReal :=
  (∑ n : Fin 32, w n * (if (n : ℕ) / 8 = f then 1 else 0)) -
    Ideal.liftRound Int.floor ((∑ n : Fin 32, w n * (if (n : ℕ) / 8 = f then 1 else 0)) * Ideal.ofBits FTy.f32 0x3B800000#32)
      * Ideal.ofBits FTy.f32 0x43800000#32

/-- The constant the queries are scaled by. -/
def scale : EReal := Named.named (F := Ideal) κ "scale" (φ := .f32) 0x3E38AA3B#32

/-- The weight of the pair (i, j), i ≤ j. -/
def weight (R : Fin 32 → Fin 64 → EReal) (cf : Fin 32 → EReal) (q k : Fin 2048 → Fin 64 → EReal) (i j : Fin 2048) : EReal :=
  if ∃ f, hash (pick R cf (q i)) f = hash (pick R cf (k j)) f then Ideal.exp2 (∑ d, (q i d * scale) * k j d) else 1

/-- The weights, mirrored at the diagonal. -/
def mirror (w : Fin 2048 → Fin 2048 → EReal) (i j : Fin 2048) : EReal := if i ≤ j then w i j else w j i

/-- One entry of one head's result. -/
def head (R : Fin 32 → Fin 64 → EReal) (cf : Fin 32 → EReal) (q k v : Fin 2048 → Fin 64 → EReal) (i : Fin 2048) (d : Fin 64) : EReal :=
  Ideal.div (∑ j, mirror (weight R cf q k) i j * v j d) (∑ j, mirror (weight R cf q k) i j * 1)

/-- A projection of the hidden states: the weight rows from `o`, the bias with them. -/
def lin (x : FVec Ideal S2048x1024 .f32) (w : FVec Ideal S128x1024 .f32) (b : FVec Ideal S1x1x128 .f32) (o : ℕ) (ho : o + 64 ≤ 128)
    (i : Fin 2048) (d : Fin 64) : EReal :=
  (∑ m : Fin 1024, x (ix2 i m) * w (ix2 ⟨o + d, by omega⟩ m)) + b (ix3 0 0 ⟨o + d, by omega⟩)

/-! ## The kernel's words, at an index -/

/-- The table indicator. -/
theorem g_apply (n : Fin 32) (f : Fin 4) : sl.v53 (F := Ideal) (ix2 n f) = if (n : ℕ) / 8 = f then 1 else 0 := by
  pointwise [sl.v53, sl.v52, sl.v49, sl.v41, sl.v30, sl.v25, sl.v28, sl.v33, sl.v40, sl.v45, sl.v26, sl.v48, sl.v50]
  have h : ∀ (n : Fin 32) (f : Fin 4), (BitVec.setWidth 32
        (IntOp.cmpi CmpIPredicate.eq
          (Scalar.select
            (IntOp.andi
              (IntOp.cmpi CmpIPredicate.ne
                (IntOp.subi (BitVec.setWidth 32 (IntOp.cmpi CmpIPredicate.sgt (BitVec.ofNat 32 n) 0#32))
                  (BitVec.setWidth 32 (IntOp.cmpi CmpIPredicate.slt (BitVec.ofNat 32 n) 0#32)))
                1#32)
              (IntOp.cmpi CmpIPredicate.ne (IntOp.remsi ArithUnit.vector (BitVec.ofNat 32 n) 8#32) 0#32))
            (IntOp.subi (IntOp.divsi ArithUnit.vector (BitVec.ofNat 32 n) 8#32) 1#32)
            (IntOp.divsi ArithUnit.vector (BitVec.ofNat 32 n) 8#32))
          (BitVec.ofNat 32 f))).toInt = if (n : ℕ) / 8 = f then 1 else 0 := by decide +kernel
  show (((BitVec.toInt _ : ℤ) : ℝ) : EReal) = _
  rw [h]
  split_ifs <;> simp

/-- The columns joined to the values: one column of ones, the rest zeros. -/
theorem one_apply (j : Fin 2048) (d : Fin 64) : sl.v58 (F := Ideal) (ix2 j d) = if (d : ℕ) = 0 then 1 else 0 := by
  pointwise [sl.v58, sl.v57, sl.v54, sl.v55]
  have h : ∀ d : Fin 64, (BitVec.setWidth 32 (IntOp.cmpi CmpIPredicate.eq (BitVec.ofNat 32 d) 0#32)).toInt = if (d : ℕ) = 0 then 1 else 0 := by
    decide +kernel
  show (((BitVec.toInt _ : ℤ) : ℝ) : EReal) = _
  rw [h]
  split_ifs <;> simp

/-- A row's hash in each of the four tables. -/
theorem hash_apply (w : FVec Ideal S2048x32 .f32) (i : Fin 2048) (f : Fin 4) :
    k0_pay20 (F := Ideal) sl.v53 w (ix2 i f) = hash (fun n => w (ix2 i n)) f := by
  pointwise [k0_pay20, g_apply]
  rfl

/-- The hashes of the keys, transposed, at an entry. -/
theorem hashT_apply (m : IVec S2048x32 1) (a b : FVec Ideal S2048x32 .f32) (i : Fin 2048) (f : Fin 4) :
    k0_pay21 (F := Ideal) sl.v53 m a b (ix2 f i) = hash (fun n => select m a b (ix2 i n)) f := by
  have h : k0_pay21 (F := Ideal) sl.v53 m a b (ix2 f i) = k0_pay20 (F := Ideal) sl.v53 (select m a b) (ix2 i f) := by
    pointwise [k0_pay21, k0_pay20]
  rw [h, hash_apply]

/-- The picked coefficients, as the kernel selects them. -/
theorem pick_apply (Q : FVec Ideal S2048x64 .f32) (R : FVec Ideal S1x32x64 .f32) (C : FVec Ideal S1x1x32 .f32) (c1 c2 c3 b)
    (i : Fin 2048) (n : Fin 32) :
    select (cmpf .ogt (matmul (φ₁ := .f32) (φ₂ := .f32) dot_S2048x64_S32x64_S2048x32_1_1_0_0_n_n none Q (shapeCast S32x64 R c1) (constant S2048x32 .f32 0x00000000#32))
        (broadcast S2048x32 (FloatOps.ofBits FTy.f32 0x00000000#32)))
      (broadcastTo S2048x32 (shapeCast S1x32 (shapeCast S1x32 C c2) c3) b) (broadcast S2048x32 (FloatOps.ofBits FTy.f32 0x00000000#32)) (ix2 i n)
      = pick (fun n d => R (ix3 0 n d)) (fun n => C (ix3 0 0 n)) (fun d => Q (ix2 i d)) n := by
  pointwise
  rfl

/-- A projection, read at equal arguments. -/
theorem lin_read {x X : FVec Ideal S2048x1024 .f32} {w W : FVec Ideal S128x1024 .f32} {b B : FVec Ideal S1x1x128 .f32} (hx : X = x) (hw : W = w) (hb : B = b) (o : ℕ) (ho : o + 64 ≤ 128)
    (c1 c2 c3 s) (i : Fin 2048) (d : Fin 64) :
    extractStridedSlice S2048x64 ![0, o] (addf (matmul (φ₁ := .f32) (φ₂ := .f32) dot_S2048x1024_S128x1024_S2048x128_1_1_0_0_n_n none (shapeCast S2048x1024 X c1) W
      (constant S2048x128 .f32 0x00000000#32)) (broadcastTo S2048x128 (shapeCast S1x128 B c2) c3)) s (ix2 i d) = lin x w b o ho i d := by
  subst hx hw hb
  pointwise
  rfl

/-- The values, beside the indicator column that sums the weights. -/
theorem ve_read {x X : FVec Ideal S2048x1024 .f32} {w W : FVec Ideal S128x1024 .f32} {b B : FVec Ideal S1x1x128 .f32} (hx : X = x) (hw : W = w) (hb : B = b) (o : ℕ) (ho : o + 64 ≤ 128)
    (c1 c2 c3 s t1 t2 t3 cc) (i : Fin 2048) (d : Fin 128) :
    truncf .bf16 (concatenate S2048x128 1 [⟨S2048x64, extractStridedSlice S2048x64 ![0, o] (addf (matmul (φ₁ := .bf16) (φ₂ := .bf16) dot_S2048x1024_S128x1024_S2048x128_1_1_0_0_n_n none
      (truncf .bf16 (shapeCast S2048x1024 X c1) t1) (truncf .bf16 W t2)
      (constant S2048x128 .f32 0x00000000#32)) (broadcastTo S2048x128 (shapeCast S1x128 B c2) c3)) s⟩, ⟨S2048x64, sl.v58 (F := Ideal)⟩] cc) t3 (ix2 i d)
      = if h : (d : ℕ) < 64 then lin x w b o ho i ⟨d, h⟩ else if (d : ℕ) = 64 then 1 else 0 := by
  subst hx hw hb
  pointwise [one_apply]
  by_cases h : (d : ℕ) < 64
  · rw [dif_pos h, dif_pos h]
    rfl
  · rw [dif_neg h, dif_neg h]
    exact if_congr (by omega) rfl rfl

/-! ## Reading the arguments -/

/-- Reading a held buffer whole reads what it holds. -/
theorem read_all {S : Shape} {e : EltTy} (a : Memref sig .tc .vmem S e) (h : a.IsWhole) (x : Vec Ideal S e) (off : Fin S.rank → ℕ)
    (h0 : ∀ u, off u = 0) (inb : ∀ u, off u + S.size u ≤ S.size u) :
    View.readAt (Elt Ideal) a.view (Rect.unit off S.size inb).toLoadRect (h.unread x) = x := by
  funext z
  rw [View.readAt_apply, h.read_unread]
  refine congrArg x (funext fun u => Fin.ext ?_)
  simp [LoadRect.idx_apply, h0]

/-- The random directions of the head with rows from `p`. -/
theorem read_rv (a : Memref sig .tc .vmem S1x64x64 .f32) (h : a.IsWhole) (x : Vec Ideal S1x64x64 .f32) (p : ℕ) (hp : p + 32 ≤ 64) (inb)
    (n : Fin 32) (d : Fin 64) :
    View.readAt (Elt Ideal) a.view (Rect.unit (s := S1x64x64) ![0, p, 0] S1x32x64.size inb).toLoadRect (h.unread x) (ix3 0 n d) = x (ix3 0 ⟨p + n, by omega⟩ d) := by
  rw [View.readAt_apply, h.read_unread]
  refine congrArg x (funext fun u => Fin.ext ?_)
  fin_cases u <;> simp [LoadRect.idx_apply]

/-- The coefficients of the head with columns from `p`. -/
theorem read_cf (a : Memref sig .tc .vmem S1x1x64 .f32) (h : a.IsWhole) (x : Vec Ideal S1x1x64 .f32) (p : ℕ) (hp : p + 32 ≤ 64) (inb)
    (n : Fin 32) :
    View.readAt (Elt Ideal) a.view (Rect.unit (s := S1x1x64) ![0, 0, p] S1x1x32.size inb).toLoadRect (h.unread x) (ix3 0 0 n) = x (ix3 0 0 ⟨p + n, by omega⟩) := by
  rw [View.readAt_apply, h.read_unread]
  refine congrArg x (funext fun u => Fin.ext ?_)
  fin_cases u <;> simp [LoadRect.idx_apply]

/-- The directions of the head with rows from `p`, by row. -/
def dirs (x : Vec Ideal S1x64x64 .f32) (p : ℕ) (hp : p + 32 ≤ 64) (n : Fin 32) (d : Fin 64) : EReal := x (ix3 0 ⟨p + n, by omega⟩ d)

/-- The coefficients of the head with columns from `p`, by column. -/
def coefs (x : Vec Ideal S1x1x64 .f32) (p : ℕ) (hp : p + 32 ≤ 64) (n : Fin 32) : EReal := x (ix3 0 0 ⟨p + n, by omega⟩)

/-- The picked coefficients from the held buffers, of a projection `u`. -/
theorem pick_read {Q : FVec Ideal S2048x64 .f32} {R : FVec Ideal S1x32x64 .f32} {C : FVec Ideal S1x1x32 .f32} (u : Fin 2048 → Fin 64 → EReal)
    (r : Fin 32 → Fin 64 → EReal) (f : Fin 32 → EReal) (hQ : ∀ i d, Q (ix2 i d) = u i d)
    (hR : ∀ n d, R (ix3 0 n d) = r n d) (hC : ∀ n, C (ix3 0 0 n) = f n) (c1 c2 c3 b') (i : Fin 2048) (n : Fin 32) :
    select (cmpf .ogt (matmul (φ₁ := .f32) (φ₂ := .f32) dot_S2048x64_S32x64_S2048x32_1_1_0_0_n_n none Q
        (shapeCast S32x64 R c1) (constant S2048x32 .f32 0x00000000#32))
        (broadcast S2048x32 (FloatOps.ofBits FTy.f32 0x00000000#32)))
      (broadcastTo S2048x32 (shapeCast S1x32 (shapeCast S1x32 C c2) c3) b')
      (broadcast S2048x32 (FloatOps.ofBits FTy.f32 0x00000000#32)) (ix2 i n)
      = pick r f (u i) n := by
  refine (pick_apply Q _ _ c1 c2 c3 b' i n).trans ?_
  have e1 : (fun n d => R (ix3 0 n d)) = r := funext fun n => funext fun d => hR n d
  have e2 : (fun n => C (ix3 0 0 n)) = f := funext fun n => hC n
  have e3 : (fun d => Q (ix2 i d)) = u i := funext fun d => hQ i d
  exact congrFun (congr (congr (congrArg pick e1) e2) e3) n

/-- The attention over mirrored weights is the head of the specification, given its operands at an index. -/
theorem att_head (R : Fin 32 → Fin 64 → EReal) (cf : Fin 32 → EReal) (q k v : Fin 2048 → Fin 64 → EReal)
    (qb kb : FVec Ideal S2048x64 .bf16) (hq : FVec Ideal S2048x4 .bf16) (hk : FVec Ideal S4x2048 .bf16) (ve : FVec Ideal S2048x128 .bf16)
    (h1 : ∀ i d, qb (ix2 i d) = q i d * scale) (h2 : ∀ i d, kb (ix2 i d) = k i d)
    (h3 : ∀ i f, hq (ix2 i f) = hash (pick R cf (q i)) f) (h4 : ∀ i f, hk (ix2 f i) = hash (pick R cf (k i)) f)
    (h5 : ∀ i (d : Fin 128), ve (ix2 i d) = if h : (d : ℕ) < 64 then v i ⟨d, h⟩ else if (d : ℕ) = 64 then 1 else 0)
    (i : Fin 2048) (d : Fin 64) : Acc.att (Tile.Sym qb kb hq hk) ve i d = head R cf q k v i d := by
  have hE : ∀ i j, Tile.E qb kb hq hk i j = weight R cf q k i j := fun i j => by
    unfold Tile.E weight
    simp only [h1, h2, h3, h4]
  have hS : ∀ j, Tile.Sym qb kb hq hk (ix2 i j) = mirror (weight R cf q k) i j := fun j => by
    unfold mirror
    rw [← hE, ← hE]
    exact if_congr Iff.rfl rfl rfl
  have hv : ∀ j, ve (ix2 j ⟨d, by omega⟩) = v j d := fun j => (h5 j _).trans (dif_pos d.2)
  have h1 : ∀ j, ve (ix2 j 64) = 1 := fun j => (h5 j _).trans (by rw [dif_neg (by decide), if_pos (by decide)])
  unfold Acc.att head
  simp only [hS, hv, h1]

variable (c : Dev nD) (arg1 : Memref sig .tc .vmem S2048x1024 .f32) (harg1 : arg1.IsWhole) (arg2 : Memref sig .tc .vmem S128x1024 .f32) (harg2 : arg2.IsWhole) (arg3 : Memref sig .tc .vmem S1x1x128 .f32) (harg3 : arg3.IsWhole) (arg4 : Memref sig .tc .vmem S128x1024 .f32) (harg4 : arg4.IsWhole) (arg5 : Memref sig .tc .vmem S1x1x128 .f32) (harg5 : arg5.IsWhole) (arg6 : Memref sig .tc .vmem S128x1024 .f32) (harg6 : arg6.IsWhole) (arg7 : Memref sig .tc .vmem S1x1x128 .f32) (harg7 : arg7.IsWhole) (arg8 : Memref sig .tc .vmem S1x64x64 .f32) (harg8 : arg8.IsWhole) (arg9 : Memref sig .tc .vmem S1x1x64 .f32) (harg9 : arg9.IsWhole) (arg10 : Memref sig .tc .vmem S1x2048x128 .f32) (harg10 : arg10.IsWhole) (arg11 : Memref sig .tc .vmem S2048x2048 .bf16) (harg11 : arg11.IsWhole)
  (x0 : Vec Ideal S2048x1024 .f32) (x1 : Vec Ideal S128x1024 .f32) (x2 : Vec Ideal S1x1x128 .f32) (x3 : Vec Ideal S128x1024 .f32) (x4 : Vec Ideal S1x1x128 .f32) (x5 : Vec Ideal S128x1024 .f32) (x6 : Vec Ideal S1x1x128 .f32) (x7 : Vec Ideal S1x64x64 .f32) (x8 : Vec Ideal S1x1x64 .f32)

/-- The queries of the first head. -/
theorem q0 (i : Fin 2048) (d : Fin 64) : sl.v59 (F := Ideal) c arg1 harg1 arg2 harg2 arg3 harg3 x0 x1 x2 (ix2 i d) = lin x0 x1 x2 0 (by decide) i d :=
  lin_read (read_all arg1 harg1 x0 ![0, 0] (by decide) (by decide)) (read_all arg2 harg2 x1 ![0, 0] (by decide) (by decide))
    (read_all arg3 harg3 x2 ![0, 0, 0] (by decide) (by decide)) 0 (by decide) (by decide) (by decide) (by decide) (by decide) i d

/-- The keys of the first head. -/
theorem k0 (i : Fin 2048) (d : Fin 64) : sl.v60 (F := Ideal) c arg1 harg1 arg4 harg4 arg5 harg5 x0 x3 x4 (ix2 i d) = lin x0 x3 x4 0 (by decide) i d :=
  lin_read (read_all arg1 harg1 x0 ![0, 0] (by decide) (by decide)) (read_all arg4 harg4 x3 ![0, 0] (by decide) (by decide))
    (read_all arg5 harg5 x4 ![0, 0, 0] (by decide) (by decide)) 0 (by decide) (by decide) (by decide) (by decide) (by decide) i d

/-- The first head of the pair. -/
theorem head0 (i : Fin 2048) (d : Fin 64) :
    Acc.att (sym0 c arg1 harg1 arg2 harg2 arg3 harg3 arg4 harg4 arg5 harg5 arg8 harg8 arg9 harg9 x0 x1 x2 x3 x4 x7 x8) (sl.v1294 (F := Ideal) c arg1 harg1 arg6 harg6 arg7 harg7 x0 x5 x6) i d
      = head (dirs x7 0 (by decide)) (coefs x8 0 (by decide)) (lin x0 x1 x2 0 (by decide)) (lin x0 x3 x4 0 (by decide)) (lin x0 x5 x6 0 (by decide)) i d := by
  have hR := read_rv arg8 harg8 x7 0 (by decide) (by decide)
  have hC := read_cf arg9 harg9 x8 0 (by decide) (by decide)
  refine att_head _ _ _ _ _ _ _ _ _ _ (fun i d => ?_) (fun i d => ?_) (fun i f => ?_) (fun i f => ?_) (fun i d => ?_) i d
  · rw [← q0 c arg1 harg1 arg2 harg2 arg3 harg3 x0 x1 x2 i d]
    rfl
  · rw [← k0 c arg1 harg1 arg4 harg4 arg5 harg5 x0 x3 x4 i d]
    rfl
  · refine (hash_apply _ i f).trans (congrArg (hash · f) (funext fun n => ?_))
    exact pick_read _ _ _ (q0 c arg1 harg1 arg2 harg2 arg3 harg3 x0 x1 x2) hR hC (by decide) (by decide) (by decide) (by decide) i n
  · refine (hashT_apply _ _ _ i f).trans (congrArg (hash · f) (funext fun n => ?_))
    exact pick_read _ _ _ (k0 c arg1 harg1 arg4 harg4 arg5 harg5 x0 x3 x4) hR hC (by decide) (by decide) (by decide) (by decide) i n
  · exact ve_read (read_all arg1 harg1 x0 ![0, 0] (by decide) (by decide)) (read_all arg6 harg6 x5 ![0, 0] (by decide) (by decide))
      (read_all arg7 harg7 x6 ![0, 0, 0] (by decide) (by decide)) 0 (by decide) (by decide) (by decide) (by decide) (by decide) (by decide) (by decide) (by decide) (by decide : Shape.Concatenates [S2048x64, S2048x64] S2048x128 1) i d

/-- The queries of the second head. -/
theorem q1 (i : Fin 2048) (d : Fin 64) : sl.v1615 (F := Ideal) c arg1 harg1 arg2 harg2 arg3 harg3 x0 x1 x2 (ix2 i d) = lin x0 x1 x2 64 (by decide) i d :=
  lin_read (read_all arg1 harg1 x0 ![0, 0] (by decide) (by decide)) (read_all arg2 harg2 x1 ![0, 0] (by decide) (by decide))
    (read_all arg3 harg3 x2 ![0, 0, 0] (by decide) (by decide)) 64 (by decide) (by decide) (by decide) (by decide) (by decide) i d

/-- The keys of the second head. -/
theorem k1 (i : Fin 2048) (d : Fin 64) : sl.v1616 (F := Ideal) c arg1 harg1 arg4 harg4 arg5 harg5 x0 x3 x4 (ix2 i d) = lin x0 x3 x4 64 (by decide) i d :=
  lin_read (read_all arg1 harg1 x0 ![0, 0] (by decide) (by decide)) (read_all arg4 harg4 x3 ![0, 0] (by decide) (by decide))
    (read_all arg5 harg5 x4 ![0, 0, 0] (by decide) (by decide)) 64 (by decide) (by decide) (by decide) (by decide) (by decide) i d

/-- The second head of the pair. -/
theorem head1 (i : Fin 2048) (d : Fin 64) :
    Acc.att (sym1 c arg1 harg1 arg2 harg2 arg3 harg3 arg4 harg4 arg5 harg5 arg8 harg8 arg9 harg9 x0 x1 x2 x3 x4 x7 x8) (sl.v2850 (F := Ideal) c arg1 harg1 arg6 harg6 arg7 harg7 x0 x5 x6) i d
      = head (dirs x7 32 (by decide)) (coefs x8 32 (by decide)) (lin x0 x1 x2 64 (by decide)) (lin x0 x3 x4 64 (by decide)) (lin x0 x5 x6 64 (by decide)) i d := by
  have hR := read_rv arg8 harg8 x7 32 (by decide) (by decide)
  have hC := read_cf arg9 harg9 x8 32 (by decide) (by decide)
  refine att_head _ _ _ _ _ _ _ _ _ _ (fun i d => ?_) (fun i d => ?_) (fun i f => ?_) (fun i f => ?_) (fun i d => ?_) i d
  · rw [← q1 c arg1 harg1 arg2 harg2 arg3 harg3 x0 x1 x2 i d]
    rfl
  · rw [← k1 c arg1 harg1 arg4 harg4 arg5 harg5 x0 x3 x4 i d]
    rfl
  · refine (hash_apply _ i f).trans (congrArg (hash · f) (funext fun n => ?_))
    exact pick_read _ _ _ (q1 c arg1 harg1 arg2 harg2 arg3 harg3 x0 x1 x2) hR hC (by decide) (by decide) (by decide) (by decide) i n
  · refine (hashT_apply _ _ _ i f).trans (congrArg (hash · f) (funext fun n => ?_))
    exact pick_read _ _ _ (k1 c arg1 harg1 arg4 harg4 arg5 harg5 x0 x3 x4) hR hC (by decide) (by decide) (by decide) (by decide) i n
  · exact ve_read (read_all arg1 harg1 x0 ![0, 0] (by decide) (by decide)) (read_all arg6 harg6 x5 ![0, 0] (by decide) (by decide))
      (read_all arg7 harg7 x6 ![0, 0, 0] (by decide) (by decide)) 64 (by decide) (by decide) (by decide) (by decide) (by decide) (by decide) (by decide) (by decide) (by decide : Shape.Concatenates [S2048x64, S2048x64] S2048x128 1) i d

/-- The block the kernel leaves at a grid point: head `s` of its pair, at every row and column. -/
theorem out_apply (i : grid0.Coords) (s : Fin 2) (r : Fin 2048) (e : Fin 64) :
    out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 (ix3 0 r ⟨64 * s + e, by omega⟩)
      = head (dirs x7 (32 * s) (by omega)) (coefs x8 (32 * s) (by omega)) (lin x0 x1 x2 (64 * s) (by omega)) (lin x0 x3 x4 (64 * s) (by omega))
          (lin x0 x5 x6 (64 * s) (by omega)) r e := by
  rw [Out.out_eq]
  unfold Out.OUT
  fin_cases s
  · refine (dif_pos (show 64 * 0 + (e : ℕ) < 64 by omega)).trans ?_
    refine Eq.trans (congrArg (Acc.att _ _ r) (Fin.ext ?_)) (head0 c arg1 harg1 arg2 harg2 arg3 harg3 arg4 harg4 arg5 harg5 arg6 harg6 arg7 harg7 arg8 harg8 arg9 harg9 x0 x1 x2 x3 x4 x5 x6 x7 x8 r e)
    show 64 * 0 + (e : ℕ) = e
    omega
  · refine (dif_neg (show ¬ 64 * 1 + (e : ℕ) < 64 by omega)).trans ?_
    refine Eq.trans (congrArg (Acc.att _ _ r) (Fin.ext ?_)) (head1 c arg1 harg1 arg2 harg2 arg3 harg3 arg4 harg4 arg5 harg5 arg6 harg6 arg7 harg7 arg8 harg8 arg9 harg9 x0 x1 x2 x3 x4 x5 x6 x7 x8 r e)
    show 64 * 1 + (e : ℕ) - 64 = e
    omega

end Cert.KernelIdeal.Leaf
end
-- ==== Proof.Blocks.lean ====
module

public import proofs.«01_k».proof.Proof.Gen.KernelIdeal.Value
public import proofs.«01_k».proof.Proof.Leaf
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Blocks

open Idealize.ShloMosaic Idealize.ShloMosaic.TcCoe Cert.KernelIdeal Cert.KernelIdeal.Gen

/-- Which block of every window a grid step sees. -/
theorem idx : ∀ t : Fin cfg0.N, win0_0.index t = ![0, 0] ∧ win0_1.index t = ![t.val, 0] ∧ win0_2.index t = ![t.val, 0, 0]
    ∧ win0_3.index t = ![t.val, 0] ∧ win0_4.index t = ![t.val, 0, 0] ∧ win0_5.index t = ![t.val, 0] ∧ win0_6.index t = ![t.val, 0, 0]
    ∧ win0_7.index t = ![t.val, 0, 0] ∧ win0_8.index t = ![t.val, 0, 0] ∧ win0_9.index t = ![0, 0, t.val] ∧ t.val < 8 :=
  (by decide +kernel : ∀ t : Fin grid0.N, _)

/-- There are eight grid steps. -/
theorem val_lt (t : Fin cfg0.N) : (t : ℕ) < 8 := (idx t).2.2.2.2.2.2.2.2.2.2

variable (m : (ℓ : Loc nD τ sig) → Buf (Elt Ideal) ℓ) (c : Dev nD) (t : Fin cfg0.N)

/-- The input, seen whole by every step. -/
theorem blk0 (i : Fin 2048) (k : Fin 1024) : (iblk m c 0 t : FVec Ideal S2048x1024 .f32) (ix2 i k)
    = (m ((c : Thread nD τ).loc main_arg0) : FVec Ideal S1x2048x1024 .f32) (ix3 0 i k) := by
  blk_simp [iblk, idx t]
  entry_read
  pointwise
  blk_ext [idx t]

/-- The rows of the query weights that a step sees. -/
theorem blk1 (a : Fin 128) (k : Fin 1024) : (iblk m c 1 t : FVec Ideal S128x1024 .f32) (ix2 a k)
    = (m ((c : Thread nD τ).loc main_arg1) : FVec Ideal S1024x1024 .f32) (ix2 ⟨128 * t + a, by have := val_lt t; omega⟩ k) := by
  blk_ext [iblk, V, idx t]

/-- The query bias that a step sees. -/
theorem blk2 (a : Fin 128) : (iblk m c 2 t : FVec Ideal S1x1x128 .f32) (ix3 0 0 a)
    = (m ((c : Thread nD τ).loc main_arg2) : FVec Ideal S1024 .f32) (ix1 ⟨128 * t + a, by have := val_lt t; omega⟩) := by
  blk_simp [iblk, idx t]
  entry_read
  pointwise
  blk_ext [idx t]

/-- The rows of the key weights that a step sees. -/
theorem blk3 (a : Fin 128) (k : Fin 1024) : (iblk m c 3 t : FVec Ideal S128x1024 .f32) (ix2 a k)
    = (m ((c : Thread nD τ).loc main_arg3) : FVec Ideal S1024x1024 .f32) (ix2 ⟨128 * t + a, by have := val_lt t; omega⟩ k) := by
  blk_ext [iblk, V, idx t]

/-- The rows of the value weights that a step sees. -/
theorem blk5 (a : Fin 128) (k : Fin 1024) : (iblk m c 5 t : FVec Ideal S128x1024 .f32) (ix2 a k)
    = (m ((c : Thread nD τ).loc main_arg5) : FVec Ideal S1024x1024 .f32) (ix2 ⟨128 * t + a, by have := val_lt t; omega⟩ k) := by
  blk_ext [iblk, V, idx t]

/-- The key bias that a step sees. -/
theorem blk4 (a : Fin 128) : (iblk m c 4 t : FVec Ideal S1x1x128 .f32) (ix3 0 0 a)
    = (m ((c : Thread nD τ).loc main_arg4) : FVec Ideal S1024 .f32) (ix1 ⟨128 * t + a, by have := val_lt t; omega⟩) := by
  blk_simp [iblk, idx t]
  entry_read
  pointwise
  blk_ext [idx t]

/-- The value bias that a step sees. -/
theorem blk6 (a : Fin 128) : (iblk m c 6 t : FVec Ideal S1x1x128 .f32) (ix3 0 0 a)
    = (m ((c : Thread nD τ).loc main_arg6) : FVec Ideal S1024 .f32) (ix1 ⟨128 * t + a, by have := val_lt t; omega⟩) := by
  blk_simp [iblk, idx t]
  entry_read
  pointwise
  blk_ext [idx t]

/-- The hash directions of the two heads that a step sees. -/
theorem blk7 (n d : Fin 64) : (iblk m c 7 t : FVec Ideal S1x64x64 .f32) (ix3 0 n d)
    = (m ((c : Thread nD τ).loc main_arg7) : FVec Ideal S1x16x4x8x64 .f32) (ix5 0 ⟨2 * t + n / 32, by have := val_lt t; omega⟩ ⟨n % 32 / 8, by omega⟩ ⟨n % 8, by omega⟩ d) := by
  blk_simp [iblk, idx t]
  entry_read
  pointwise
  blk_ext [idx t]

/-- The hash coefficients of the two heads that a step sees. -/
theorem blk8 (n : Fin 64) : (iblk m c 8 t : FVec Ideal S1x1x64 .f32) (ix3 0 0 n)
    = ((((m ((c : Thread nD τ).loc main_arg8) : IVec S1x16x4x8 32) (ix4 0 ⟨2 * t + n / 32, by have := val_lt t; omega⟩ ⟨n % 32 / 8, by omega⟩ ⟨n % 8, by omega⟩)).toInt : ℝ) : EReal) := by
  blk_simp [iblk, idx t]
  entry_read
  pointwise
  refine congrArg (FloatOps.sitofp FTy.f32) ?_
  blk_ext [idx t]

/-! ## The arrays, by head -/

/-- Head `h`'s column `d` of a projection of the hidden states. -/
def glin (X : FVec Ideal S1x2048x1024 .f32) (W : FVec Ideal S1024x1024 .f32) (b : FVec Ideal S1024 .f32) (h : Fin 16) (i : Fin 2048) (d : Fin 64) : EReal :=
  (∑ k : Fin 1024, X (ix3 0 i k) * W (ix2 ⟨64 * h + d, by omega⟩ k)) + b (ix1 ⟨64 * h + d, by omega⟩)

/-- Head `h`'s directions, the tables in order. -/
def gdirs (rv : FVec Ideal S1x16x4x8x64 .f32) (h : Fin 16) (n : Fin 32) (d : Fin 64) : EReal := rv (ix5 0 h ⟨n / 8, by omega⟩ ⟨n % 8, by omega⟩ d)

/-- Head `h`'s coefficients, the tables in order. -/
def gcoefs (cf : IVec S1x16x4x8 32) (h : Fin 16) (n : Fin 32) : EReal := (((cf (ix4 0 h ⟨n / 8, by omega⟩ ⟨n % 8, by omega⟩)).toInt : ℝ) : EReal)

/-- What the kernel computes, over its arguments. -/
def result (X : FVec Ideal S1x2048x1024 .f32) (Wq : FVec Ideal S1024x1024 .f32) (bq : FVec Ideal S1024 .f32) (Wk : FVec Ideal S1024x1024 .f32)
    (bk : FVec Ideal S1024 .f32) (Wv : FVec Ideal S1024x1024 .f32) (bv : FVec Ideal S1024 .f32) (rv : FVec Ideal S1x16x4x8x64 .f32)
    (cf : IVec S1x16x4x8 32) (h : Fin 16) (i : Fin 2048) (d : Fin 64) : EReal :=
  Leaf.head (gdirs rv h) (gcoefs cf h) (glin X Wq bq h) (glin X Wk bk h) (glin X Wv bv h) i d

/-- A step and a half of it name one of the sixteen heads. -/
theorem lt16 (s : Fin 2) : 2 * (t : ℕ) + s < 16 := by
  have := val_lt t
  omega

/-- A projection computed from a step's blocks is the projection of its head. -/
theorem glin_of {x : FVec Ideal S2048x1024 .f32} {w : FVec Ideal S128x1024 .f32} {b : FVec Ideal S1x1x128 .f32}
    {X : FVec Ideal S1x2048x1024 .f32} {W : FVec Ideal S1024x1024 .f32} {B : FVec Ideal S1024 .f32}
    (hx : ∀ i k, x (ix2 i k) = X (ix3 0 i k)) (hw : ∀ (a : Fin 128) k, w (ix2 a k) = W (ix2 ⟨128 * t + a, by have := val_lt t; omega⟩ k))
    (hb : ∀ a : Fin 128, b (ix3 0 0 a) = B (ix1 ⟨128 * t + a, by have := val_lt t; omega⟩)) (s : Fin 2) :
    Leaf.lin x w b (64 * s) (by omega) = glin X W B ⟨2 * t + s, lt16 t s⟩ := by
  funext i d
  have e : ∀ h1 h2, (⟨128 * (t : ℕ) + (64 * s + d), h1⟩ : Fin 1024) = ⟨64 * (2 * t + s) + d, h2⟩ := fun _ _ => Fin.ext (by show 128 * (t : ℕ) + (64 * s + d) = 64 * (2 * t + s) + d; omega)
  unfold Leaf.lin glin
  simp only [hx, hw, hb]
  rw [e]

/-- The directions in a step's block are those of its head. -/
theorem gdirs_of {x : FVec Ideal S1x64x64 .f32} {X : FVec Ideal S1x16x4x8x64 .f32}
    (hx : ∀ n d : Fin 64, x (ix3 0 n d) = X (ix5 0 ⟨2 * t + n / 32, by have := val_lt t; omega⟩ ⟨n % 32 / 8, by omega⟩ ⟨n % 8, by omega⟩ d)) (s : Fin 2) :
    Leaf.dirs x (32 * s) (by omega) = gdirs X ⟨2 * t + s, lt16 t s⟩ := by
  funext n d
  refine (hx _ d).trans (congrArg X ?_)
  funext u
  refine Fin.ext ?_
  fin_cases u
  · rfl
  · show 2 * (t : ℕ) + (32 * s + n) / 32 = 2 * t + s
    omega
  · show (32 * (s : ℕ) + n) % 32 / 8 = n / 8
    omega
  · show (32 * (s : ℕ) + n) % 8 = n % 8
    omega
  · rfl

/-- The coefficients in a step's block are those of its head. -/
theorem gcoefs_of {x : FVec Ideal S1x1x64 .f32} {X : IVec S1x16x4x8 32}
    (hx : ∀ n : Fin 64, x (ix3 0 0 n) = (((X (ix4 0 ⟨2 * t + n / 32, by have := val_lt t; omega⟩ ⟨n % 32 / 8, by omega⟩ ⟨n % 8, by omega⟩)).toInt : ℝ) : EReal)) (s : Fin 2) :
    Leaf.coefs x (32 * s) (by omega) = gcoefs X ⟨2 * t + s, lt16 t s⟩ := by
  funext n
  refine (hx _).trans (congrArg (fun z => (((X z).toInt : ℝ) : EReal)) ?_)
  funext u
  refine Fin.ext ?_
  fin_cases u
  · rfl
  · show 2 * (t : ℕ) + (32 * s + n) / 32 = 2 * t + s
    omega
  · show (32 * (s : ℕ) + n) % 32 / 8 = n / 8
    omega
  · show (32 * (s : ℕ) + n) % 8 = n % 8
    omega

/-- The kernel's result as an array: column `64 h + d` belongs to head `h`. -/
def arr (X : FVec Ideal S1x2048x1024 .f32) (Wq : FVec Ideal S1024x1024 .f32) (bq : FVec Ideal S1024 .f32) (Wk : FVec Ideal S1024x1024 .f32)
    (bk : FVec Ideal S1024 .f32) (Wv : FVec Ideal S1024x1024 .f32) (bv : FVec Ideal S1024 .f32) (rv : FVec Ideal S1x16x4x8x64 .f32)
    (cf : IVec S1x16x4x8 32) : FVec Ideal S1x2048x1024 .f32 :=
  fun y => result X Wq bq Wk bk Wv bv rv cf ⟨(y 2 : ℕ) / 64, by have := (y 2).isLt; simp at this; omega⟩ (y 1) ⟨(y 2 : ℕ) % 64, by omega⟩

/-- The block grid point `t` leaves: two heads. -/
theorem point (s : Fin 2) (r : Fin 2048) (e : Fin 64) :
    (outsAt0 m c t : FVec Ideal S1x2048x128 .f32) (ix3 0 r ⟨64 * s + e, by omega⟩)
      = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) ⟨2 * t + s, lt16 t s⟩ r e := by
  unfold outsAt0
  refine (Leaf.out_apply c _ _ _ _ _ _ _ _ _ _ _ _ _ _ _ _ _ _ _ _ _ _ _ _ _ _ _ _ _ _ _ (grid0.coords t) s r e).trans ?_
  unfold result
  rw [glin_of t (blk0 m c t) (blk1 m c t) (blk2 m c t) s, glin_of t (blk0 m c t) (blk3 m c t) (blk4 m c t) s,
    glin_of t (blk0 m c t) (blk5 m c t) (blk6 m c t) s, gdirs_of t (blk7 m c t) s, gcoefs_of t (blk8 m c t) s]

/-- The output array after the run. -/
theorem final : (dats m 0 c).arrAt 9 cfg0.N
    = arr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp
  rw [after0_9]
  obtain ⟨s, r, e, rfl⟩ : ∃ (s : Fin 2) (r : Fin 2048) (e : Fin 64), y = (ix3 0 r ⟨64 * s + e, by omega⟩ : S1x2048x128.Idx) := by
    change S1x2048x128.Idx at y
    idx_vars y
    obtain rfl : y0 = 0 := Subsingleton.elim _ _
    refine ⟨⟨y2 / 64, by omega⟩, y1, ⟨y2 % 64, by omega⟩, congrArg (ix3 0 y1) (Fin.ext ?_)⟩
    show (y2 : ℕ) = 64 * (y2 / 64) + y2 % 64
    omega
  refine (point m c t s r e).trans ?_
  have h1 : ((win0_9.blk t).view.emb (ix3 0 r ⟨64 * s + e, by omega⟩ : S1x2048x128.Idx) : S1x2048x1024.Idx) = ix3 0 r ⟨128 * t + (64 * s + e), by have := val_lt t; omega⟩ := by
    blk_ext [idx t]
  have h2 : ∀ h, (⟨(128 * (t : ℕ) + (64 * s + e)) / 64, h⟩ : Fin 16) = ⟨2 * t + s, lt16 t s⟩ := fun _ => Fin.ext (by
    show (128 * (t : ℕ) + (64 * s + e)) / 64 = 2 * t + s
    omega)
  have h3 : ∀ h, (⟨(128 * (t : ℕ) + (64 * s + e)) % 64, h⟩ : Fin 64) = e := fun _ => Fin.ext (by
    show (128 * (t : ℕ) + (64 * s + e)) % 64 = e
    omega)
  rw [h1]
  exact (congrArg₂ (fun h e => result _ _ _ _ _ _ _ _ _ h r e) (h2 _) (h3 _)).symm

end Cert.KernelIdeal.Blocks
end
-- ==== Proof.Reals.lean ====
module

public import Idealize.ShloMosaic.Lib.Pointwise
public import Idealize.ShloMosaic.PureOps.Ideal.Laws
public import Mathlib.Analysis.SpecialFunctions.Pow.Real

@[expose] public section

set_option maxRecDepth 16384

noncomputable section

namespace Cert.Proof.Reals

open Idealize.ShloMosaic

/-! ## Constants -/

/-- The word of minus infinity. -/
theorem c_bot : Ideal.ofBits FTy.f32 0xFF800000#32 = ⊥ := by
  simp [Ideal.ofBits, Ideal.ieee, -EReal.coe_mul]

/-- The word of 64. -/
theorem c_64 : Ideal.ofBits FTy.f32 0x42800000#32 = ((64 : ℝ) : EReal) := by
  simp [Ideal.ofBits, Ideal.ieee, -EReal.coe_mul]
  norm_num

/-- The word of 256. -/
theorem c_256 : Ideal.ofBits FTy.f32 0x43800000#32 = ((256 : ℝ) : EReal) := by
  simp [Ideal.ofBits, Ideal.ieee, -EReal.coe_mul]
  norm_num

/-- The word of 1/256. -/
theorem c_inv256 : Ideal.ofBits FTy.f32 0x3B800000#32 = ((1 / 256 : ℝ) : EReal) := by
  simp [Ideal.ofBits, Ideal.ieee, -EReal.coe_mul]
  norm_num

/-! ## Sums of reals in the extended reals -/

/-- A sum of real numbers is the same among the extended reals. -/
theorem coe_sum {n : ℕ} (f : Fin n → ℝ) : ∑ j, ((f j : ℝ) : EReal) = ((∑ j, f j : ℝ) : EReal) := by
  induction n with
  | zero => simp
  | succ n ih => rw [Fin.sum_univ_succ, Fin.sum_univ_succ, ih, EReal.coe_add]

/-- A positive real factor goes through a sum of extended reals. -/
theorem sum_mul_coe {n : ℕ} (f : Fin n → EReal) (r : ℝ) (hr : 0 ≤ r) : (∑ j, f j) * (r : EReal) = ∑ j, f j * (r : EReal) := by
  induction n with
  | zero => simp
  | succ n ih =>
    rw [Fin.sum_univ_succ, Fin.sum_univ_succ, ← ih,
      EReal.right_distrib_of_nonneg_of_ne_top (EReal.coe_nonneg.mpr hr) (EReal.coe_ne_top r)]

/-- A quotient of real numbers likewise, by a number that is not zero. -/
theorem div_real (x y : ℝ) (hy : y ≠ 0) : Ideal.div (x : EReal) (y : EReal) = ((x / y : ℝ) : EReal) := by
  rw [Ideal.div_coe hy, ← EReal.coe_mul, mul_one_div]

/-! ## The softmax -/

/-- Dividing the weights before the product with the values, after a shift by `M`, is dividing the product. -/
theorem softmax {n : ℕ} [NeZero n] (x : Fin n → ℝ) (M : ℝ) (v : Fin n → EReal) :
    ∑ j, Ideal.div (Ideal.exp ((x j : EReal) - (M : EReal))) (∑ k, Ideal.exp ((x k : EReal) - (M : EReal))) * v j
      = Ideal.div (∑ j, Ideal.exp (x j : EReal) * v j) (∑ j, Ideal.exp (x j : EReal) * 1) := by
  have hpos : 0 < ∑ j, Real.exp (x j) := Finset.sum_pos (fun j _ => Real.exp_pos _) ⟨0, Finset.mem_univ _⟩
  have hM : 0 < ∑ j, Real.exp (x j - M) := Finset.sum_pos (fun j _ => Real.exp_pos _) ⟨0, Finset.mem_univ _⟩
  have e1 : ∀ j, Ideal.exp ((x j : EReal) - (M : EReal)) = ((Real.exp (x j - M) : ℝ) : EReal) := fun j => by
    rw [← EReal.coe_sub]
    rfl
  have e2 : ∀ j, Ideal.exp (x j : EReal) = ((Real.exp (x j) : ℝ) : EReal) := fun _ => rfl
  have e3 : ∑ j, Real.exp (x j - M) = (∑ j, Real.exp (x j)) / Real.exp M := by
    rw [Finset.sum_div]
    exact Finset.sum_congr rfl fun j _ => Real.exp_sub _ _
  have e4 : ∀ j, Real.exp (x j - M) / (∑ k, Real.exp (x k - M)) = Real.exp (x j) * (1 / ∑ k, Real.exp (x k)) := fun j => by
    have := Real.exp_pos M
    rw [e3, Real.exp_sub]
    field_simp
  simp only [e1, e2, mul_one, coe_sum]
  rw [Ideal.div_coe hpos.ne', sum_mul_coe _ _ (by positivity)]
  refine Finset.sum_congr rfl fun j _ => ?_
  rw [div_real _ _ hM.ne', e4, EReal.coe_mul]
  rw [mul_assoc, mul_comm ((1 / _ : ℝ) : EReal), ← mul_assoc]

/-- A score of finite rows in base two, with the factor the scale is, is the score in base e divided by 8. -/
theorem exp2_score {n : ℕ} (q k : Fin n → ℝ) :
    Ideal.exp2 (∑ d, ((q d : EReal) * ((1 / 8 * (Real.log 2)⁻¹ : ℝ) : EReal)) * (k d : EReal))
      = Ideal.exp (((∑ d, q d * k d) / 8 : ℝ) : EReal) := by
  have e : ∑ d, ((q d : EReal) * ((1 / 8 * (Real.log 2)⁻¹ : ℝ) : EReal)) * (k d : EReal)
      = (((∑ d, q d * k d) / 8 * (Real.log 2)⁻¹ : ℝ) : EReal) := by
    simp only [← EReal.coe_mul, coe_sum]
    refine congrArg _ ?_
    rw [Finset.sum_div, Finset.sum_mul]
    refine Finset.sum_congr rfl fun d _ => ?_
    ring
  rw [e]
  show ((Real.rpow 2 _ : ℝ) : EReal) = ((Real.exp _ : ℝ) : EReal)
  refine congrArg _ ?_
  have h2 : Real.log 2 ≠ 0 := (Real.log_pos (by norm_num)).ne'
  show (2 : ℝ) ^ (((∑ d, q d * k d) / 8 * (Real.log 2)⁻¹ : ℝ)) = _
  rw [Real.rpow_def_of_pos (by norm_num)]
  refine congrArg _ ?_
  field_simp

/-- The greatest of finitely many reals, from minus infinity, is a real. -/
theorem fold_max_real {ι : Type} (s : Finset ι) (f : ι → EReal) (hf : ∀ i, ∃ r : ℝ, f i = r) (hs : s.Nonempty) :
    ∃ M : ℝ, max ⊥ (s.fold max ⊥ f) = (M : EReal) := by
  obtain ⟨i, hi⟩ := hs
  have h1 : s.fold max ⊥ f ≠ ⊤ := by
    refine ne_of_lt ((Finset.fold_max_lt _).mpr ⟨bot_lt_top, fun j _ => ?_⟩)
    obtain ⟨r, hr⟩ := hf j
    rw [hr]
    exact EReal.coe_lt_top r
  have h2 : s.fold max ⊥ f ≠ ⊥ := by
    obtain ⟨r, hr⟩ := hf i
    refine (lt_of_lt_of_le (EReal.bot_lt_coe r) ((Finset.le_fold_max _).mpr (Or.inr ⟨i, hi, hr.ge⟩))).ne'
  exact ⟨_, by rw [max_eq_right bot_le, EReal.coe_toReal h1 h2]⟩

/-! ## The hash -/

/-- A sign is positive exactly on the positive numbers. -/
theorem pos_of_sign (x : EReal) : 0 < Ideal.sign x ↔ 0 < x := by
  induction x with
  | bot =>
    show (0 : EReal) < -1 ↔ _
    simp
  | top =>
    show (0 : EReal) < 1 ↔ _
    simp
  | coe r =>
    show (0 : EReal) < ((SignType.sign r : ℝ) : EReal) ↔ _
    rw [EReal.coe_pos, EReal.coe_pos]
    rcases lt_trichotomy r 0 with h | h | h
    · rw [sign_neg h]
      simp [h.le]
      norm_num
      exact h.le
    · simp [h]
    · rw [sign_pos h]
      simp [h]

/-- The kernel's remainder of an integer in the reals. -/
theorem floor_mod (z : ℤ) :
    (((z : ℝ) : EReal)) - Ideal.liftRound Int.floor (((z : ℝ) : EReal) * Ideal.ofBits FTy.f32 0x3B800000#32) * Ideal.ofBits FTy.f32 0x43800000#32
      = (((z % 256 : ℤ) : ℝ) : EReal) := by
  rw [c_256, c_inv256, ← EReal.coe_mul]
  show ((z : ℝ) : EReal) - (((⌊(z : ℝ) * (1 / 256)⌋ : ℤ) : ℝ) : EReal) * _ = _
  have h : ⌊(z : ℝ) * (1 / 256)⌋ = z / 256 := by
    rw [Int.floor_eq_iff]
    have h1 : z / 256 * 256 ≤ z := by omega
    have h2 : z < (z / 256 + 1) * 256 := by omega
    have h1' : ((z / 256 : ℤ) : ℝ) * 256 ≤ z := by exact_mod_cast h1
    have h2' : (z : ℝ) < (((z / 256 : ℤ) : ℝ) + 1) * 256 := by exact_mod_cast h2
    constructor <;> linarith
  rw [h, ← EReal.coe_mul, ← EReal.coe_sub]
  refine congrArg _ ?_
  have := Int.emod_def z 256
  rw [this]
  push_cast
  ring

/-- The reference's remainder of a word by 256, as it is spelt. -/
theorem word_mod (x : BitVec 32) :
    Scalar.select
      (IntOp.andi
        (IntOp.cmpi CmpIPredicate.ne (IntOp.cmpi CmpIPredicate.slt (IntOp.remsi ArithUnit.host x 256#32) 0#32) (IntOp.cmpi CmpIPredicate.slt 256#32 0#32))
        (IntOp.cmpi CmpIPredicate.ne (IntOp.remsi ArithUnit.host x 256#32) 0#32))
      (IntOp.addi (IntOp.remsi ArithUnit.host x 256#32) 256#32) (IntOp.remsi ArithUnit.host x 256#32)
      = BitVec.ofInt 32 (x.toInt % 256) := by
  have hr : IntOp.remsi ArithUnit.host x 256#32 = x.srem 256#32 := by
    refine if_neg ?_
    rintro (h | ⟨-, h⟩)
    · exact absurd h (by decide)
    · exact absurd h (by decide)
  rw [hr]
  set r := x.srem 256#32 with hrd
  have hi : r.toInt = x.toInt.tmod 256 := by
    rw [hrd, BitVec.toInt_srem]
    rfl
  have hm : r.toInt = if 0 ≤ x.toInt ∨ (256 : ℤ) ∣ x.toInt then x.toInt % 256 else x.toInt % 256 - 256 := by
    rw [hi, Int.tmod_eq_emod]
    split_ifs <;> simp
  have hs : r.slt 0#32 = decide (r.toInt < 0) := by simp [BitVec.slt_eq_decide]
  have e0 : IntOp.cmpi CmpIPredicate.slt 256#32 0#32 = 0#1 := by decide
  have hx : (BitVec.ofInt 32 (x.toInt % 256)).toInt = x.toInt % 256 := by
    rw [BitVec.toInt_ofInt, Int.bmod_eq_of_le (by omega) (by omega)]
  rw [e0]
  refine BitVec.eq_of_toInt_eq ?_
  rw [hx]
  by_cases hn : r.toInt < 0
  · have hne : (r != 0#32) = true := by
      rw [bne_iff_ne]
      intro h
      rw [h] at hn
      exact absurd hn (by decide)
    have hc : IntOp.andi (IntOp.cmpi CmpIPredicate.ne (IntOp.cmpi CmpIPredicate.slt r 0#32) 0#1) (IntOp.cmpi CmpIPredicate.ne r 0#32) = 1#1 := by
      simp only [IntOp.cmpi, IntOp.andi, hs, hne, hn, decide_true]
      decide
    rw [hc]
    show (r + 256#32).toInt = _
    rw [BitVec.toInt_add]
    have h256 : (256#32).toInt = 256 := by decide
    rw [h256]
    split_ifs at hm with h
    · omega
    · rw [Int.bmod_eq_of_le (by omega) (by omega)]
      omega
  · have hc : IntOp.andi (IntOp.cmpi CmpIPredicate.ne (IntOp.cmpi CmpIPredicate.slt r 0#32) 0#1) (IntOp.cmpi CmpIPredicate.ne r 0#32) = 0#1 := by
      simp only [IntOp.cmpi, IntOp.andi, hs, hn, decide_false]
      simp
    rw [hc]
    show r.toInt = _
    split_ifs at hm with h
    · exact hm
    · omega

/-- A sum of words is the word of the sum. -/
theorem fold_addi {n : ℕ} (z : Fin n → ℤ) : Finset.fold IntOp.addi 0#32 (fun x => BitVec.ofInt 32 (z x)) Finset.univ = BitVec.ofInt 32 (∑ x, z x) := by
  have h : ∀ s : Finset (Fin n), Finset.fold IntOp.addi 0#32 (fun x => BitVec.ofInt 32 (z x)) s = BitVec.ofInt 32 (∑ x ∈ s, z x) := by
    intro s
    induction s using Finset.induction_on with
    | empty => rfl
    | insert a s ha ih =>
      rw [Finset.fold_insert ha, Finset.sum_insert ha, ih, BitVec.ofInt_add]
      rfl
  exact h _

/-- The residue of a word of an integer. -/
theorem mod_ofInt (z : ℤ) : (BitVec.ofInt 32 z).toInt % 256 = z % 256 := by
  rw [BitVec.toInt_ofInt, Int.bmod_def]
  split_ifs <;> omega

/-- Two residues of integers as words are the same word exactly when they are the same number. -/
theorem residue_inj (a b : ℤ) : BitVec.ofInt 32 (a % 256) = BitVec.ofInt 32 (b % 256) ↔ (((a % 256 : ℤ) : ℝ) : EReal) = (((b % 256 : ℤ) : ℝ) : EReal) := by
  have hx : ∀ c : ℤ, (BitVec.ofInt 32 (c % 256)).toInt = c % 256 := fun c => by
    rw [BitVec.toInt_ofInt, Int.bmod_eq_of_le (by omega) (by omega)]
  constructor
  · intro h
    have h' := congrArg BitVec.toInt h
    rw [hx, hx] at h'
    rw [h']
  · intro h
    have h' : (a % 256 : ℤ) = b % 256 := by exact_mod_cast h
    rw [h']

/-- A coefficient times a sign bit. -/
theorem bit_mul (p : Prop) [Decidable p] (c : BitVec 32) :
    IntOp.muli (BitVec.setWidth 32 (BitVec.ofBool (decide p))) c = BitVec.ofInt 32 (if p then c.toInt else 0) := by
  by_cases h : p
  · simp [h, IntOp.muli]
  · simp [h, IntOp.muli]

/-- Whether one of four bits is set. -/
theorem fold_ori (p : Fin 4 → Prop) [∀ f, Decidable (p f)] :
    Finset.fold IntOp.ori 0#1 (fun f => BitVec.ofBool (decide (p f))) Finset.univ = if ∃ f, p f then 1#1 else 0#1 := by
  have h : Finset.fold IntOp.ori 0#1 (fun f => BitVec.ofBool (decide (p f))) (Finset.univ : Finset (Fin 4))
      = BitVec.ofBool (decide (p 0)) ||| (BitVec.ofBool (decide (p 1)) ||| (BitVec.ofBool (decide (p 2)) ||| (BitVec.ofBool (decide (p 3)) ||| 0#1))) := rfl
  rw [h]
  by_cases h0 : p 0 <;> by_cases h1 : p 1 <;> by_cases h2 : p 2 <;> by_cases h3 : p 3 <;> simp [h0, h1, h2, h3, Fin.exists_fin_succ]

/-- A small word, read signed. -/
theorem ofNat_toInt (x : Fin 2048) : (BitVec.ofNat 32 (x : ℕ)).toInt = x := by
  have hx := x.2
  rw [BitVec.toInt_ofNat', Int.bmod_eq_of_le (by omega) (by omega)]

/-- The reference's triangle bit: off below the diagonal. -/
theorem triu_bit (i j : Fin 2048) :
    Scalar.select (IntOp.cmpi CmpIPredicate.sge (IntOp.addi (BitVec.ofNat 32 i) 4294967295#32) (BitVec.ofNat 32 j)) 0#1 1#1
      = if i ≤ j then 1#1 else 0#1 := by
  have hi := i.2
  have hj := j.2
  have h : (BitVec.ofNat 32 (j : ℕ)).sle (BitVec.ofNat 32 (i : ℕ) + 4294967295#32) = decide (j < i) := by
    have e : (4294967295#32).toInt = -1 := by decide
    rw [BitVec.sle_eq_decide, BitVec.toInt_add, ofNat_toInt, ofNat_toInt, e, Int.bmod_eq_of_le (by omega) (by omega)]
    refine decide_eq_decide.mpr ?_
    rw [Fin.lt_def]
    omega
  simp only [IntOp.cmpi, IntOp.addi, h]
  by_cases c : i ≤ j
  · simp [c, Scalar.select, not_lt.mpr c]
  · simp [c, Scalar.select, not_le.mp c]

/-- The reference's diagonal bit. -/
theorem eye_bit {α : Type} (i j : Fin 2048) (x y : α) :
    Scalar.select (IntOp.cmpi CmpIPredicate.eq (IntOp.addi (BitVec.ofNat 32 i) 0#32) (BitVec.ofNat 32 j)) x y = if i = j then x else y := by
  have h : (BitVec.ofNat 32 (i : ℕ) + 0#32 == BitVec.ofNat 32 (j : ℕ)) = decide (i = j) := by
    rw [BitVec.add_zero, Bool.eq_iff_iff, beq_iff_eq, decide_eq_true_iff]
    constructor
    · intro h
      have h' := congrArg BitVec.toInt h
      rw [ofNat_toInt, ofNat_toInt] at h'
      exact Fin.ext (by exact_mod_cast h')
    · rintro rfl
      rfl
  simp only [IntOp.cmpi, IntOp.addi, h]
  by_cases c : i = j <;> simp [c, Scalar.select]

end Cert.Proof.Reals
end
-- ==== Proof.Score.lean ====
module

public import proofs.«01_k».proof.Proof.Blocks
public import proofs.«01_k».proof.Proof.Reals

@[expose] public section

set_option maxRecDepth 16384

noncomputable section

namespace Cert.Proof.Score

open Idealize.ShloMosaic Cert.KernelIdeal Cert.KernelIdeal.Blocks Cert.Proof.Reals

/-! ## The scores both programs are about -/

/-- The sum a row's hash in table `f` is the residue of. -/
def zsum (rv : FVec Ideal S1x16x4x8x64 .f32) (cf : IVec S1x16x4x8 32) (h : Fin 16) (u : Fin 64 → EReal) (f : Fin 4) : ℤ :=
  ∑ b : Fin 8, if 0 < ∑ d : Fin 64, rv (ix5 0 h f b d) * u d then (cf (ix4 0 h f b)).toInt else 0

/-- A query and a key fall in the same bucket of some table. -/
def Meet (rv : FVec Ideal S1x16x4x8x64 .f32) (cf : IVec S1x16x4x8 32) (h : Fin 16) (u w : Fin 64 → EReal) : Prop :=
  ∃ f, zsum rv cf h u f % 256 = zsum rv cf h w f % 256

open Classical in
/-- The score of a pair, nothing where its rows do not meet. -/
def upper (rv : FVec Ideal S1x16x4x8x64 .f32) (cf : IVec S1x16x4x8 32) (h : Fin 16) (q k : Fin 2048 → Fin 64 → ℝ) (i j : Fin 2048) : ℝ :=
  if Meet rv cf h (fun d => (q i d : EReal)) (fun d => (k j d : EReal)) then ∑ d, q i d * k j d else 0

/-- The scores, mirrored at the diagonal. -/
def score (rv : FVec Ideal S1x16x4x8x64 .f32) (cf : IVec S1x16x4x8 32) (h : Fin 16) (q k : Fin 2048 → Fin 64 → ℝ) (i j : Fin 2048) : ℝ :=
  if i ≤ j then upper rv cf h q k i j else upper rv cf h q k j i

variable (rv : FVec Ideal S1x16x4x8x64 .f32) (cf : IVec S1x16x4x8 32) (h : Fin 16)

/-- The kernel's hash is the residue. -/
theorem hash_eq (u : Fin 64 → EReal) (f : Fin 4) :
    Leaf.hash (Leaf.pick (gdirs rv h) (gcoefs cf h) u) f = (((zsum rv cf h u f % 256 : ℤ) : ℝ) : EReal) := by
  have e : ∑ n : Fin 32, Leaf.pick (gdirs rv h) (gcoefs cf h) u n * (if (n : ℕ) / 8 = f then 1 else 0) = (((zsum rv cf h u f : ℤ) : ℝ) : EReal) := by
    let g : Fin 32 → ℤ := fun n => if (n : ℕ) / 8 = f then
      (if 0 < ∑ d : Fin 64, rv (ix5 0 h ⟨n / 8, by omega⟩ ⟨n % 8, by omega⟩ d) * u d then (cf (ix4 0 h ⟨n / 8, by omega⟩ ⟨n % 8, by omega⟩)).toInt else 0) else 0
    have e1 : ∀ n, Leaf.pick (gdirs rv h) (gcoefs cf h) u n * (if (n : ℕ) / 8 = f then 1 else 0) = (((g n : ℝ)) : EReal) := fun n => by
      have e2 : ∑ d : Fin 64, u d * gdirs rv h n d = ∑ d : Fin 64, rv (ix5 0 h ⟨n / 8, by omega⟩ ⟨n % 8, by omega⟩ d) * u d :=
        Finset.sum_congr rfl fun d _ => mul_comm _ _
      unfold Leaf.pick
      rw [e2]
      simp only [g]
      unfold gcoefs
      split_ifs <;> simp
    simp only [e1]
    rw [coe_sum, ← Int.cast_sum]
    refine congrArg (fun z : ℤ => (((z : ℝ)) : EReal)) ?_
    rw [Fin.sum_univ_tiles 4 8 rfl g]
    unfold zsum
    rw [Finset.sum_eq_single f]
    · refine Finset.sum_congr rfl fun b _ => ?_
      have h1 : ((f : ℕ) * 8 + b) / 8 = f := by omega
      have h2 : ((f : ℕ) * 8 + b) % 8 = b := by omega
      simp only [g, h1, h2, if_true]
    · intro f' _ hf
      refine Finset.sum_eq_zero fun b _ => ?_
      have h1 : ((f' : ℕ) * 8 + b) / 8 = f' := by omega
      simp only [g, h1]
      exact if_neg fun h => hf (Fin.ext h)
    · intro hf
      exact absurd (Finset.mem_univ f) hf
  unfold Leaf.hash
  rw [e, floor_mod]

/-- The scale, as named. -/
theorem scale_eq : Leaf.scale = ((1 / 8 * (Real.log 2)⁻¹ : ℝ) : EReal) :=
  IdealRules.named_const.ideal_named_scalar _ _ _ _ rfl

/-- The kernel's weight is the exponential of the score. -/
theorem weight_eq (q k : Fin 2048 → Fin 64 → ℝ) (i j : Fin 2048) :
    Leaf.weight (gdirs rv h) (gcoefs cf h) (fun i d => (q i d : EReal)) (fun i d => (k i d : EReal)) i j
      = Ideal.exp ((upper rv cf h q k i j / 8 : ℝ) : EReal) := by
  unfold Leaf.weight upper Meet
  simp only [hash_eq]
  have e : (∃ f, (((zsum rv cf h (fun d => (q i d : EReal)) f % 256 : ℤ) : ℝ) : EReal) = (((zsum rv cf h (fun d => (k j d : EReal)) f % 256 : ℤ) : ℝ) : EReal))
      ↔ ∃ f, zsum rv cf h (fun d => (q i d : EReal)) f % 256 = zsum rv cf h (fun d => (k j d : EReal)) f % 256 := by
    refine exists_congr fun f => ?_
    norm_cast
  by_cases c : ∃ f, zsum rv cf h (fun d => (q i d : EReal)) f % 256 = zsum rv cf h (fun d => (k j d : EReal)) f % 256
  · rw [if_pos (e.mpr c), if_pos c, scale_eq, exp2_score]
  · rw [if_neg (fun h => c (e.mp h)), if_neg c]
    show (1 : EReal) = ((Real.exp _ : ℝ) : EReal)
    simp

/-- What the kernel computes, of finite queries and keys. -/
theorem head_eq (q k : Fin 2048 → Fin 64 → ℝ) (v : Fin 2048 → Fin 64 → EReal) (i : Fin 2048) (d : Fin 64) :
    Leaf.head (gdirs rv h) (gcoefs cf h) (fun i d => (q i d : EReal)) (fun i d => (k i d : EReal)) v i d
      = Ideal.div (∑ j, Ideal.exp ((score rv cf h q k i j / 8 : ℝ) : EReal) * v j d) (∑ j, Ideal.exp ((score rv cf h q k i j / 8 : ℝ) : EReal) * 1) := by
  have e : ∀ j, Leaf.mirror (Leaf.weight (gdirs rv h) (gcoefs cf h) (fun i d => (q i d : EReal)) (fun i d => (k i d : EReal))) i j
      = Ideal.exp ((score rv cf h q k i j / 8 : ℝ) : EReal) := fun j => by
    unfold Leaf.mirror score
    rw [weight_eq, weight_eq]
    split_ifs <;> rfl
  unfold Leaf.head
  simp only [e]

end Cert.Proof.Score
end
-- ==== Proof.Ref.lean ====
module

public import proofs.«01_k».proof.Proof.Gen.ReferenceIdeal.Run
public import proofs.«01_k».proof.Proof.Score
public import Idealize.ShloMosaic.Lib.Pointwise

@[expose] public section

set_option maxRecDepth 16384

noncomputable section

namespace Cert.ReferenceIdeal.Ref

open Idealize.ShloMosaic Idealize.ShloMosaic.TcCoe Idealize.ShloMosaic.StableHlo Cert.ReferenceIdeal Cert.ReferenceIdeal.Gen Cert.ReferenceIdeal.Value
open Cert.KernelIdeal.Blocks (glin)
open Cert.Proof.Reals Cert.Proof.Score

variable (W : Valuation τ sig (Elt Ideal))

/-- An argument of the reference, at its literal type. -/
abbrev X : FVec Ideal S1x2048x1024 .f32 := W (Proc.devRef .tc main_arg0)
/-- The query weights. -/
abbrev Wq : FVec Ideal S1024x1024 .f32 := W (Proc.devRef .tc main_arg1)
/-- The query bias. -/
abbrev bq : FVec Ideal S1024 .f32 := W (Proc.devRef .tc main_arg2)
/-- The key weights. -/
abbrev Wk : FVec Ideal S1024x1024 .f32 := W (Proc.devRef .tc main_arg3)
/-- The key bias. -/
abbrev bk : FVec Ideal S1024 .f32 := W (Proc.devRef .tc main_arg4)
/-- The value weights. -/
abbrev Wv : FVec Ideal S1024x1024 .f32 := W (Proc.devRef .tc main_arg5)
/-- The value bias. -/
abbrev bv : FVec Ideal S1024 .f32 := W (Proc.devRef .tc main_arg6)
/-- The hash directions. -/
abbrev rv : FVec Ideal S1x16x4x8x64 .f32 := W (Proc.devRef .tc main_arg7)
/-- The hash coefficients. -/
abbrev cf : IVec S1x16x4x8 32 := W (Proc.devRef .tc main_arg8)

/-- A projection's column by its number. -/
theorem glin_at (x : FVec Ideal S1x2048x1024 .f32) (w : FVec Ideal S1024x1024 .f32) (b : FVec Ideal S1024 .f32) (h : Fin 16) (i : Fin 2048) (d : Fin 64)
    (n : Fin 1024) (hn : (n : ℕ) = h * 64 + d) : ∑ k, x (ix3 0 i k) * w (ix2 n k) + b (ix1 n) = glin x w b h i d := by
  obtain ⟨n, hlt⟩ := n
  obtain rfl : n = 64 * h + d := (show n = h * 64 + d from hn).trans (by rw [Nat.mul_comm])
  rfl

/-- The reference's queries are the projection, by head. -/
theorem q_apply (h : Fin 16) (i : Fin 2048) (d : Fin 64) : (show FVec Ideal S1x16x2048x64 .f32 from res_main_v16 (F := Ideal) W) (ix4 0 h i d) = glin (X W) (Wq W) (bq W) h i d := by
  pointwise [res_main_v16]
  exact glin_at (X W) (Wq W) (bq W) h i d _ rfl

/-- Its keys likewise. -/
theorem k_apply (h : Fin 16) (i : Fin 2048) (d : Fin 64) : (show FVec Ideal S1x16x2048x64 .f32 from res_main_v18 (F := Ideal) W) (ix4 0 h i d) = glin (X W) (Wk W) (bk W) h i d := by
  pointwise [res_main_v18]
  exact glin_at (X W) (Wk W) (bk W) h i d _ rfl

/-- The rows that are hashed: the queries, then the keys. -/
def row (h : Fin 16) (i : Fin 4096) (d : Fin 64) : EReal :=
  if c : (i : ℕ) < 2048 then glin (X W) (Wq W) (bq W) h ⟨i, c⟩ d else glin (X W) (Wk W) (bk W) h ⟨i - 2048, by omega⟩ d

/-- The first half of the rows are the queries. -/
theorem row_q (h : Fin 16) (i : Fin 2048) (hi) : row W h ⟨i, hi⟩ = glin (X W) (Wq W) (bq W) h i :=
  funext fun _ => dif_pos i.2

/-- The second half are the keys. -/
theorem row_k (h : Fin 16) (i : Fin 2048) (hi) : row W h ⟨2048 + i, hi⟩ = glin (X W) (Wk W) (bk W) h i := by
  funext d
  refine (dif_neg (show ¬ 2048 + (i : ℕ) < 2048 by omega)).trans ?_
  exact congrArg (fun n => glin (X W) (Wk W) (bk W) h n d) (Fin.ext (show 2048 + (i : ℕ) - 2048 = i by omega))

/-- The remainder the hash is corrected from. -/
theorem rem_apply (h : Fin 16) (f : Fin 4) (i : Fin 4096) : (show IVec S1x16x4x4096 32 from res_main_call0_v4 (F := Ideal) W) (ix4 0 h f i)
    = IntOp.remsi ArithUnit.host (BitVec.ofInt 32 (zsum (rv W) (cf W) h (row W h i) f)) 256#32 := by
  pointwise [res_main_call0_v4, res_main_call0_v2, res_main_call0_v0]
  refine congrArg₂ (IntOp.remsi ArithUnit.host) ?_ rfl
  unfold zsum
  rw [← fold_addi]
  refine congrArg (fun g => Finset.fold IntOp.addi 0#32 g Finset.univ) (funext fun x => ?_)
  refine (bit_mul _ _).trans (congrArg (BitVec.ofInt 32) (if_congr ((pos_of_sign _).trans (Iff.of_eq (congrArg (0 < ·) ?_))) rfl rfl))
  refine Finset.sum_congr rfl fun d _ => congrArg (rv W (ix5 0 h f x d) * ·) ?_
  by_cases c : (i : ℕ) < 2048
  · exact (dif_pos c).trans ((q_apply W h ⟨i, c⟩ d).trans (by unfold row; rw [dif_pos c]))
  · exact (dif_neg c).trans ((k_apply W h ⟨i - 2048, by omega⟩ d).trans (by unfold row; rw [dif_neg c]))

/-- The reference's hash is the residue, as a word. -/
theorem hv_apply (h : Fin 16) (f : Fin 4) (i : Fin 4096) : (show IVec S1x16x4x4096 32 from res_main_v31 (F := Ideal) W) (ix4 0 h f i)
    = BitVec.ofInt 32 (zsum (rv W) (cf W) h (row W h i) f % 256) := by
  have e : (res_main_call0_v4 (F := Ideal) W) (ix4 0 h f i) = IntOp.remsi ArithUnit.host (BitVec.ofInt 32 (zsum (rv W) (cf W) h (row W h i) f)) 256#32 := rem_apply W h f i
  pointwise [res_main_v31, res_main_call0_v2, res_main_call0_v0]
  rw [e]
  refine (word_mod _).trans ?_
  rw [mod_ofInt]

end Cert.ReferenceIdeal.Ref
end
-- ==== Proof.Bucket.lean ====
module

public import proofs.«01_k».proof.Proof.Ref

@[expose] public section

set_option maxRecDepth 16384

noncomputable section

namespace Cert.ReferenceIdeal.Ref

open Idealize.ShloMosaic Idealize.ShloMosaic.TcCoe Idealize.ShloMosaic.StableHlo Cert.ReferenceIdeal Cert.ReferenceIdeal.Gen Cert.ReferenceIdeal.Value
open Cert.KernelIdeal.Blocks (glin)
open Cert.KernelIdeal.Tile (andi_ite select_ite)
open Cert.Proof.Reals Cert.Proof.Score

variable (W : Valuation τ sig (Elt Ideal))

variable (q k : Fin 16 → Fin 2048 → Fin 64 → ℝ) (hq : ∀ h i d, glin (X W) (Wq W) (bq W) h i d = (q h i d : EReal))
  (hk : ∀ h i d, glin (X W) (Wk W) (bk W) h i d = (k h i d : EReal))

include hq hk

/-- The scores of the upper triangle, nothing below it. -/
theorem b_apply (h : Fin 16) (i j : Fin 2048) : (show FVec Ideal S1x16x2048x2048 .f32 from res_main_v50 (F := Ideal) W) (ix4 0 h i j)
    = ((if i ≤ j then upper (rv W) (cf W) h (q h) (k h) i j else 0 : ℝ) : EReal) := by
  have e1 : ∀ f : Fin 4, ∀ h1 h2, IntOp.cmpi CmpIPredicate.eq ((res_main_v31 (F := Ideal) W) (ix4 0 h f ⟨i, h1⟩)) ((res_main_v31 (F := Ideal) W) (ix4 0 h f ⟨2048 + j, h2⟩))
      = BitVec.ofBool (decide (zsum (rv W) (cf W) h (fun d => (q h i d : EReal)) f % 256 = zsum (rv W) (cf W) h (fun d => (k h j d : EReal)) f % 256)) := by
    intro f h1 h2
    have a1 := hv_apply W h f ⟨i, h1⟩
    have a2 := hv_apply W h f ⟨2048 + j, h2⟩
    rw [row_q, show glin (X W) (Wq W) (bq W) h i = fun d => (q h i d : EReal) from funext (hq h i)] at a1
    rw [row_k, show glin (X W) (Wk W) (bk W) h j = fun d => (k h j d : EReal) from funext (hk h j)] at a2
    refine (congrArg₂ (IntOp.cmpi CmpIPredicate.eq) a1 a2).trans (congrArg BitVec.ofBool ?_)
    show (BitVec.ofInt 32 _ == BitVec.ofInt 32 _) = _
    rw [Bool.eq_iff_iff, beq_iff_eq, decide_eq_true_iff, residue_inj]
    norm_cast
  have e2 : ∑ d, (show FVec Ideal S1x16x2048x64 .f32 from res_main_v16 (F := Ideal) W) (ix4 0 h i d) * (show FVec Ideal S1x16x2048x64 .f32 from res_main_v18 (F := Ideal) W) (ix4 0 h j d) = ((∑ d, q h i d * k h j d : ℝ) : EReal) := by
    rw [← coe_sum]
    refine Finset.sum_congr rfl fun d _ => ?_
    rw [EReal.coe_mul]
    exact congrArg₂ (fun a b : EReal => a * b) ((q_apply W h i d).trans (hq h i d)) ((k_apply W h j d).trans (hk h j d))
  pointwise [res_main_v50]
  simp only [e1]
  refine (congrArg₂ (fun a b => Scalar.select a b _) (congrArg₂ IntOp.andi (fold_ori _) (triu_bit i j)) e2).trans ?_
  rw [andi_ite, select_ite]
  unfold upper Meet
  have h0 : (id (constant (F := Ideal) S_ .f32 0x00000000#32) : FVec Ideal S_ .f32) ix0 = 0 := Ideal.ofBits_zero_f32
  by_cases c : i ≤ j
  · by_cases c' : ∃ f, zsum (rv W) (cf W) h (fun d => (q h i d : EReal)) f % 256 = zsum (rv W) (cf W) h (fun d => (k h j d : EReal)) f % 256
    · rw [if_pos ⟨c', c⟩, if_pos c, if_pos c']
    · rw [if_neg fun a => c' a.1, if_pos c, if_neg c', EReal.coe_zero]
      exact h0
  · rw [if_neg fun a => c a.2, if_neg c, EReal.coe_zero]
    exact h0

end Cert.ReferenceIdeal.Ref
end
-- ==== Proof.Steps.lean ====
module

public import proofs.«01_k».proof.Proof.Ref

@[expose] public section

set_option maxRecDepth 16384

noncomputable section

namespace Cert.ReferenceIdeal.Ref

open Idealize.ShloMosaic Idealize.ShloMosaic.TcCoe Idealize.ShloMosaic.StableHlo Cert.ReferenceIdeal Cert.ReferenceIdeal.Gen Cert.ReferenceIdeal.Value
open Cert.KernelIdeal.Blocks (glin)
open Cert.KernelIdeal.Tile (andi_ite select_ite)
open Cert.Proof.Reals Cert.Proof.Score

/-- A triangle laid over its mirror image, the diagonal counted once, and divided by eight. -/
def both (v : FVec Ideal S1x16x2048x2048 .f32) : FVec Ideal S1x16x2048x2048 .f32 :=
  Host.divf (subf (addf v (transpose S1x16x2048x2048 [0, 1, 3, 2] v transposes_S1x16x2048x2048_S1x16x2048x2048_0_1_3_2)) (select (broadcastInDim S1x16x2048x2048 ![2, 3] bcast_S2048x2048_S1x16x2048x2048_2_3 (cmpi .eq (addi (iotaInDim S2048x2048 32 0) (broadcastInDim S2048x2048 ![] bcast_S_S2048x2048 (constantI S_ 32 0#32))) (iotaInDim S2048x2048 32 1))) v (broadcastInDim S1x16x2048x2048 ![] bcast_S_S1x16x2048x2048 (id (constant S_ .f32 0x00000000#32))))) (broadcastInDim S1x16x2048x2048 ![] bcast_S_S1x16x2048x2048 (Host.sqrt (constant S_ .f32 0x42800000#32)))

/-- Its entries. -/
theorem both_apply (v : FVec Ideal S1x16x2048x2048 .f32) (h : Fin 16) (i j : Fin 2048) : both v (ix4 0 h i j)
    = Ideal.div (v (ix4 0 h i j) + v (ix4 0 h j i) - if i = j then v (ix4 0 h i j) else 0) ((8 : ℝ) : EReal) := by
  pointwise [both]
  have h0 : (id (constant (F := Ideal) S_ .f32 0x00000000#32) : FVec Ideal S_ .f32) ix0 = 0 := Ideal.ofBits_zero_f32
  have h8 : Ideal.sqrt (Ideal.ofBits FTy.f32 1115684864#32) = ((8 : ℝ) : EReal) := by
    refine (congrArg Ideal.sqrt c_64).trans ?_
    rw [Ideal.sqrt_coe, if_neg (by norm_num)]
    refine congrArg _ ?_
    rw [show (64 : ℝ) = 8 ^ 2 by norm_num, Real.sqrt_sq (by norm_num)]
  rw [eye_bit, h8, h0]

/-- The exponentials of the entries less a number of their row. -/
def expo (v : FVec Ideal S1x16x2048x2048 .f32) (r : FVec Ideal S1x16x2048 .f32) : FVec Ideal S1x16x2048x2048 .f32 :=
  Host.exp (subf v (broadcastInDim S1x16x2048x2048 ![0, 1, 2, 3] bcast_S1x16x2048x1_S1x16x2048x2048_0_1_2_3 (broadcastInDim S1x16x2048x1 ![0, 1, 2] bcast_S1x16x2048_S1x16x2048x1_0_1_2 (maximumf (broadcastInDim S1x16x2048 ![] bcast_S_S1x16x2048 (constant S_ .f32 0xFF800000#32)) r))))

/-- Its entries. -/
theorem expo_apply (v : FVec Ideal S1x16x2048x2048 .f32) (r : FVec Ideal S1x16x2048 .f32) (h : Fin 16) (i j : Fin 2048) : expo v r (ix4 0 h i j)
    = Ideal.exp (v (ix4 0 h i j) - max ⊥ (r (ix3 0 h i))) := by
  pointwise [expo]
  exact congrArg (fun a => Ideal.exp (v (ix4 0 h i j) - max a (r (ix3 0 h i)))) c_bot

/-- The greatest entry of every row. -/
def top (v : FVec Ideal S1x16x2048x2048 .f32) : FVec Ideal S1x16x2048 .f32 := Host.reduce FloatOps.maximumf v (constant S_ .f32 0xFF800000#32) reducesTo_S1x16x2048x2048_S1x16x2048_d3 h_S_

/-- Where every entry is a real number, so is the greatest of a row. -/
theorem top_real (v : FVec Ideal S1x16x2048x2048 .f32) (hv : ∀ z, ∃ x : ℝ, v z = (x : EReal)) (h : Fin 16) (i : Fin 2048) : ∃ M : ℝ, max ⊥ (top v (ix3 0 h i)) = (M : EReal) := by
  pointwise [top]
  have hb : Ideal.ofBits FTy.f32 4286578688#32 = ⊥ := c_bot
  rw [hb]
  exact fold_max_real _ (fun x => v (ix4 0 h i x)) (fun _ => hv _) ⟨0, Finset.mem_univ _⟩

/-- The rows of `e`, each divided by its sum, times the values, by head; the heads laid side by side. -/
def join (e : FVec Ideal S1x16x2048x2048 .f32) (x : FVec Ideal S1x2048x1024 .f32) (w : FVec Ideal S1024x1024 .f32) (b : FVec Ideal S1024 .f32) : FVec Ideal S1x2048x1024 .f32 :=
  shapeCast _ (transpose S1x2048x16x64 [0, 2, 1, 3] (broadcastInDim S1x16x2048x64 ![1, 2, 3] bcast_S16x2048x64_S1x16x2048x64_1_2_3 (Host.dotGeneral dot_S16x2048x2048_S16x2048x64_S16x2048x64_2_1_1_2_0_0 none (shapeCast _ (Host.divf e (broadcastInDim S1x16x2048x2048 ![0, 1, 2, 3] bcast_S1x16x2048x1_S1x16x2048x2048_0_1_2_3 (broadcastInDim S1x16x2048x1 ![0, 1, 2] bcast_S1x16x2048_S1x16x2048x1_0_1_2 (Host.reduceAdd e (constant S_ .f32 0x00000000#32) reducesTo_S1x16x2048x2048_S1x16x2048_d3 h_S_)))) shapeCasts_S1x16x2048x2048_S16x2048x2048) (shapeCast _ (transpose S1x16x2048x64 [0, 2, 1, 3] (shapeCast _ (addf (Host.dotGeneral dot_S1x2048x1024_S1024x1024_S1x2048x1024_2_0_01_1_n_n none x (transpose S1024x1024 [1, 0] w transposes_S1024x1024_S1024x1024_1_0)) (broadcastInDim S1x2048x1024 ![0, 1, 2] bcast_S1x1x1024_S1x2048x1024_0_1_2 (broadcastInDim S1x1x1024 ![2] bcast_S1024_S1x1x1024_2 b))) shapeCasts_S1x2048x1024_S1x2048x16x64) transposes_S1x2048x16x64_S1x16x2048x64_0_2_1_3) shapeCasts_S1x16x2048x64_S16x2048x64))) transposes_S1x16x2048x64_S1x2048x16x64_0_2_1_3) shapeCasts_S1x2048x16x64_S1x2048x1024

/-- Its entries. -/
theorem join_apply (e : FVec Ideal S1x16x2048x2048 .f32) (x : FVec Ideal S1x2048x1024 .f32) (w : FVec Ideal S1024x1024 .f32) (b : FVec Ideal S1024 .f32) (i : Fin 2048) (n : Fin 1024) :
    join e x w b (ix3 0 i n) = ∑ j, Ideal.div (e (ix4 0 ⟨(n : ℕ) / 64, by omega⟩ i j)) (∑ k, e (ix4 0 ⟨(n : ℕ) / 64, by omega⟩ i k)) * glin x w b ⟨(n : ℕ) / 64, by omega⟩ j ⟨(n : ℕ) % 64, by omega⟩ := by
  pointwise [join]
  refine Finset.sum_congr rfl fun j _ => congrArg (Ideal.div (e (ix4 0 ⟨(n : ℕ) / 64, by omega⟩ i j)) (∑ k, e (ix4 0 ⟨(n : ℕ) / 64, by omega⟩ i k)) * ·) ?_
  exact glin_at x w b ⟨(n : ℕ) / 64, by omega⟩ j ⟨(n : ℕ) % 64, by omega⟩ n (Nat.div_add_mod' n 64).symm

end Cert.ReferenceIdeal.Ref
end
-- ==== Proof.Value.lean ====
module

public import proofs.«01_k».proof.Proof.Bucket
public import proofs.«01_k».proof.Proof.Steps

@[expose] public section

set_option maxRecDepth 16384

noncomputable section

namespace Cert.ReferenceIdeal.Ref

open Idealize.ShloMosaic Idealize.ShloMosaic.TcCoe Idealize.ShloMosaic.StableHlo Cert.ReferenceIdeal Cert.ReferenceIdeal.Gen Cert.ReferenceIdeal.Value
open Cert.KernelIdeal.Blocks (glin)
open Cert.KernelIdeal.Tile (andi_ite select_ite)
open Cert.Proof.Reals Cert.Proof.Score

variable (W : Valuation τ sig (Elt Ideal))
variable (q k : Fin 16 → Fin 2048 → Fin 64 → ℝ)
  (hq : ∀ h i d, glin (X W) (Wq W) (bq W) h i d = ((q h i d : ℝ) : EReal))
  (hk : ∀ h i d, glin (X W) (Wk W) (bk W) h i d = ((k h i d : ℝ) : EReal))

include hq hk

/-- The scores the softmax is taken of. -/
theorem s_apply (h : Fin 16) (i j : Fin 2048) : both (res_main_v50 (F := Ideal) W) (ix4 0 h i j)
    = ((score (rv W) (cf W) h (q h) (k h) i j / 8 : ℝ) : EReal) := by
  have e : ∀ i j, (show FVec Ideal S1x16x2048x2048 .f32 from res_main_v50 (F := Ideal) W) (ix4 0 h i j) = ((if i ≤ j then upper (rv W) (cf W) h (q h) (k h) i j else 0 : ℝ) : EReal) := b_apply W q k hq hk h
  rw [← div_real _ _ (by norm_num : (8 : ℝ) ≠ 0)]
  refine (both_apply _ h i j).trans (congrArg (fun a : EReal => Ideal.div a ((8 : ℝ) : EReal)) ?_)
  refine (congrArg₂ (fun a b : EReal => a + b - if i = j then a else 0) (e i j) (e j i)).trans ?_
  unfold score
  rcases lt_trichotomy i j with c | c | c
  · rw [if_pos c.le, if_neg c.not_ge, if_neg c.ne, ← EReal.coe_add, ← EReal.coe_zero, ← EReal.coe_sub, if_pos c.le]
    exact congrArg _ (by ring)
  · subst c
    rw [if_pos le_rfl, if_pos rfl, ← EReal.coe_add, ← EReal.coe_sub, if_pos le_rfl]
    exact congrArg _ (by ring)
  · rw [if_neg c.not_ge, if_pos c.le, if_neg c.ne', ← EReal.coe_add, ← EReal.coe_zero, ← EReal.coe_sub, if_neg c.not_ge]
    exact congrArg _ (by ring)

/-- The unnormalised probabilities: exponentials of the scores less a number that depends on the row only. -/
theorem e_apply (h : Fin 16) (i : Fin 2048) : ∃ M : ℝ, ∀ j : Fin 2048, expo (both (res_main_v50 (F := Ideal) W)) (top (both (res_main_v50 (F := Ideal) W))) (ix4 0 h i j)
    = Ideal.exp (((score (rv W) (cf W) h (q h) (k h) i j / 8 : ℝ) : EReal) - (M : EReal)) := by
  obtain ⟨M, hM⟩ := top_real (both (res_main_v50 (F := Ideal) W)) (by
    intro z
    idx_vars z
    obtain rfl : z0 = 0 := Subsingleton.elim _ _
    exact ⟨_, s_apply W q k hq hk z1 z2 z3⟩) h i
  refine ⟨M, fun j => ?_⟩
  refine (expo_apply _ _ h i j).trans ?_
  rw [hM, s_apply W q k hq hk]

/-- Every entry of the reference's result is the entry of the kernel's. -/
theorem value_apply (i : Fin 2048) (n : Fin 1024) : join (expo (both (res_main_v50 (F := Ideal) W)) (top (both (res_main_v50 (F := Ideal) W)))) (X W) (Wv W) (bv W) (ix3 0 i n)
    = Cert.KernelIdeal.Blocks.result (X W) (Wq W) (bq W) (Wk W) (bk W) (Wv W) (bv W) (rv W) (cf W) ⟨(n : ℕ) / 64, by omega⟩ i ⟨(n : ℕ) % 64, by omega⟩ := by
  refine (join_apply _ _ _ _ i n).trans ?_
  generalize (⟨(n : ℕ) / 64, _⟩ : Fin 16) = h
  generalize (⟨(n : ℕ) % 64, _⟩ : Fin 64) = d
  obtain ⟨M, hM⟩ := e_apply W q k hq hk h i
  simp only [hM]
  refine (softmax _ M _).trans ?_
  unfold Cert.KernelIdeal.Blocks.result
  rw [show glin (X W) (Wq W) (bq W) h = fun i d => ((q h i d : ℝ) : EReal) from funext fun i => funext (hq h i),
    show glin (X W) (Wk W) (bk W) h = fun i d => ((k h i d : ℝ) : EReal) from funext fun i => funext (hk h i)]
  exact (head_eq (rv W) (cf W) h (q h) (k h) _ i d).symm

/-- The reference's result, as its run leaves it. -/
def whole : FVec Ideal S1x2048x1024 .f32 := join (res_main_v69 (F := Ideal) W) (X W) (Wv W) (bv W)

omit hq hk in
/-- The same, with the names of its last steps opened. -/
theorem whole_eq : whole W = join (expo (both (res_main_v50 (F := Ideal) W)) (top (both (res_main_v50 (F := Ideal) W)))) (X W) (Wv W) (bv W) := rfl

/-- The reference's result is the kernel's. -/
theorem value_eq : whole W
    = Cert.KernelIdeal.Blocks.arr (X W) (Wq W) (bq W) (Wk W) (bk W) (Wv W) (bv W) (rv W) (cf W) := by
  rw [whole_eq]
  funext y
  idx_vars y
  obtain rfl : y0 = 0 := Subsingleton.elim _ _
  exact value_apply W q k hq hk y1 y2

end Cert.ReferenceIdeal.Ref
end
-- ==== Proof.Finite.lean ====
module

public import proofs.«01_k».proof.Proof.Blocks
public import proofs.«01_k».proof.Proof.Reals
public import proofs.«01_k».proof.Proof.Gen.Pre_finite
public import Idealize.ShloMosaic.Lib.ReduceAll
public import Idealize.ShloMosaic.Lib.Pointwise

@[expose] public section

noncomputable section

namespace Cert.Proof.Finite

open Idealize.ShloMosaic Cert.Pre_finite
open Cert.KernelIdeal.Blocks (glin)
open Cert.Proof.Reals

/-- A scalar has one index. -/
instance : Subsingleton S_.Idx := ⟨fun _ _ => funext fun a => a.elim0⟩

/-- The word of infinity is infinity. -/
theorem c_top : Ideal.ofBits FTy.f32 0x7F800000#32 = ⊤ := by
  simp [Ideal.ofBits, Ideal.ieee, -EReal.coe_mul]

/-- A number whose absolute value is below infinity is real. -/
theorem real_of_abs (x : EReal) (h : max x (-x) < ⊤) : ∃ r : ℝ, x = (r : EReal) := by
  induction x with
  | bot => exact absurd h (by simp)
  | coe r => exact ⟨r, rfl⟩
  | top => exact absurd h (by simp)

/-- An entry at which the comparison holds is real. -/
theorem real_of_bit {s : Shape} (x : FVec Ideal s .f32) (b : S_.BroadcastsInDim s ![]) (z : s.Idx)
    (h : cmpf .olt (Host.absf x) (broadcastInDim s ![] b (constant S_ .f32 0x7F800000#32)) z = 1#1) : ∃ r : ℝ, x z = (r : EReal) := by
  refine real_of_abs (x z) ?_
  have e : BitVec.ofBool (decide (max (x z) (-x z) < Ideal.ofBits FTy.f32 0x7F800000#32)) = 1#1 := h
  rw [c_top] at e
  by_contra c
  rw [decide_eq_false c] at e
  exact absurd e (by decide)

/-- The precondition, read: every entry of the input and of the two projections is real. -/
theorem entries (x : FVec Ideal S1x2048x1024 .f32) (w : FVec Ideal S1024x1024 .f32) (b : FVec Ideal S1024 .f32) (w' : FVec Ideal S1024x1024 .f32) (b' : FVec Ideal S1024 .f32)
    (w'' : FVec Ideal S1024x1024 .f32) (b'' : FVec Ideal S1024 .f32) (r : FVec Ideal S1x16x4x8x64 .f32) (c : IVec S1x16x4x8 32)
    (h : Cert.Pre_finite.fn (F := Ideal) x w b w' b' w'' b'' r c = fun _ => 1#1) :
    (∀ z, ∃ r : ℝ, x z = (r : EReal)) ∧ (∀ z, ∃ r : ℝ, w z = (r : EReal)) ∧ (∀ z, ∃ r : ℝ, b z = (r : EReal))
      ∧ (∀ z, ∃ r : ℝ, w' z = (r : EReal)) ∧ (∀ z, ∃ r : ℝ, b' z = (r : EReal)) := by
  have h0 := congrFun h ix0
  unfold Cert.Pre_finite.fn Cert.Pre_finite.fn_part1 at h0
  obtain ⟨h3, e4⟩ := IntOp.andi_eq_one.1 h0
  obtain ⟨h2, e3⟩ := IntOp.andi_eq_one.1 h3
  obtain ⟨h1, e2⟩ := IntOp.andi_eq_one.1 h2
  obtain ⟨e0, e1⟩ := IntOp.andi_eq_one.1 h1
  exact ⟨fun z => real_of_bit x _ z (Host.reduce_andi_all _ _ _ _ _ e0 z), fun z => real_of_bit w _ z (Host.reduce_andi_all _ _ _ _ _ e1 z),
    fun z => real_of_bit b _ z (Host.reduce_andi_all _ _ _ _ _ e2 z), fun z => real_of_bit w' _ z (Host.reduce_andi_all _ _ _ _ _ e3 z),
    fun z => real_of_bit b' _ z (Host.reduce_andi_all _ _ _ _ _ e4 z)⟩

/-- A projection of real entries by real weights is real. -/
theorem glin_real (x : FVec Ideal S1x2048x1024 .f32) (w : FVec Ideal S1024x1024 .f32) (b : FVec Ideal S1024 .f32)
    (hx : ∀ z, ∃ r : ℝ, x z = (r : EReal)) (hw : ∀ z, ∃ r : ℝ, w z = (r : EReal)) (hb : ∀ z, ∃ r : ℝ, b z = (r : EReal)) :
    ∃ q : Fin 16 → Fin 2048 → Fin 64 → ℝ, ∀ h i d, glin x w b h i d = ((q h i d : ℝ) : EReal) := by
  choose x' ex using hx
  choose w' ew using hw
  choose b' eb using hb
  refine ⟨fun h i d => ∑ k, x' (ix3 0 i k) * w' (ix2 ⟨64 * h + d, by omega⟩ k) + b' (ix1 ⟨64 * h + d, by omega⟩), fun h i d => ?_⟩
  unfold glin
  rw [EReal.coe_add, ← coe_sum]
  refine congrArg₂ (fun a b : EReal => a + b) (Finset.sum_congr rfl fun k _ => ?_) (eb _)
  rw [EReal.coe_mul]
  exact congrArg₂ (fun a b : EReal => a * b) (ex _) (ew _)

end Cert.Proof.Finite
end
-- ==== Proof.lean ====
module

public import proofs.«01_k».proof.Defs
public import proofs.«01_k».proof.Proof.Frames
public import proofs.«01_k».proof.Proof.Blocks
public import proofs.«01_k».proof.Proof.Value
public import proofs.«01_k».proof.Proof.Finite
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Idealize.ShloMosaic.StableHlo

/-- The reference's result on arguments that satisfy the precondition is the kernel's final array on the same arguments. -/
theorem reference_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Ref.whole (launchContents m' c) = (Cert.KernelIdeal.Gen.dats m 0 c).arrAt 9 Cert.KernelIdeal.cfg0.N := by
  obtain ⟨e0, e1, e2, e3, e4⟩ := Finite.entries _ _ _ _ _ _ _ _ _ (hpre c)
  obtain ⟨q, hq⟩ := Finite.glin_real _ _ _ e0 e1 e2
  obtain ⟨k, hk⟩ := Finite.glin_real _ _ _ e0 e3 e4
  rw [← h0, ← h1, ← h2] at hq
  rw [← h0, ← h3, ← h4] at hk
  refine (Cert.ReferenceIdeal.Ref.value_eq (launchContents m' c) q k hq hk).trans ?_
  rw [Cert.KernelIdeal.Blocks.final m c]
  rw [← h0, ← h1, ← h2, ← h3, ← h4, ← h5, ← h6, ← h7, ← h8]

/-- Run from the same arguments, which satisfy the precondition, kernel and reference end with the same result. -/
theorem algebraic : Cert.algebraic_KernelIdeal_ReferenceIdeal_pre_finite := by
  intro m ρ m' ρ' hpre hagree
  refine ⟨_, Cert.KernelIdeal.Value.run_blocks m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5, h6, h7, h8⟩ := hagree c
  exact reference_value m m' hpre c h0 h1 h2 h3 h4 h5 h6 h7 h8

/-- Everything the certificate claims. -/
theorem claim : Cert.Claim :=
  ⟨Cert.Kernel.Gen.facts, Cert.KernelIdeal.Gen.facts, Cert.ReferenceIdeal.Gen.facts, Cert.Pre_finite.Gen.facts,
    Frames.kernel, Frames.kernelIdeal, fun m ρ _ => Frames.kernelIdeal m ρ trivial, Frames.referenceIdeal,
    fun m ρ _ => Frames.referenceIdeal m ρ trivial, Frames.preserves, algebraic⟩

end Cert.Proof

end
